-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 8192, 768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 8192, 768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Pre_finite_ReferenceIdeal.lean ====
abbrev S2x8192x768 : Shape := ⟨3, ![2, 8192, 768]⟩
abbrev S768x256 : Shape := ⟨2, ![768, 256]⟩
abbrev S256x768 : Shape := ⟨2, ![256, 768]⟩
abbrev S_ : Shape := ⟨0, ![]⟩

class Facts : Prop where
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_

variable [Facts]

def fn {F : FTy → Type} [FloatOps F] (main_arg0 : FVec F S2x8192x768 .f32) (main_arg1 : FVec F S768x256 .f32) (main_arg2 : FVec F S768x256 .f32) (main_arg3 : FVec F S768x256 .f32) (main_arg4 : FVec F S256x768 .f32) : IVec S_ 1 :=
  let main_v0 : FVec F S2x8192x768 .f32 := Host.absf main_arg0
  let main_cst : FVec F S_ .f32 := constant S_ .f32 0x7F800000#32
  let main_v1 : FVec F S2x8192x768 .f32 := broadcastInDim S2x8192x768 ![] bcast_S_S2x8192x768 main_cst
  let main_v2 : IVec S2x8192x768 1 := cmpf .olt main_v0 main_v1
  let main_c : IVec S_ 1 := constantI S_ 1 1#1
  let main_v3 : IVec S_ 1 := (fun x v => Host.reduce IntOp.andi x v reducesTo_S2x8192x768_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  main_v13
-- ==== Kernel.lean ====
abbrev S2x256x768 : Shape := ⟨3, ![2, 256, 768]⟩
abbrev S768x256 : Shape := ⟨2, ![768, 256]⟩
abbrev S256x768 : Shape := ⟨2, ![256, 768]⟩
abbrev S2x256x256 : Shape := ⟨3, ![2, 256, 256]⟩
abbrev S2x2x2x256x256 : Shape := ⟨5, ![2, 2, 2, 256, 256]⟩
abbrev S8x256x1 : Shape := ⟨3, ![8, 256, 1]⟩
abbrev S8x256x64 : Shape := ⟨3, ![8, 256, 64]⟩
abbrev S2 : Shape := ⟨1, ![2]⟩
abbrev S_ : Shape := ⟨0, ![]⟩
abbrev S256x256 : Shape := ⟨2, ![256, 256]⟩
abbrev S1x256x768 : Shape := ⟨3, ![1, 256, 768]⟩
abbrev S1x256x256 : Shape := ⟨3, ![1, 256, 256]⟩
abbrev S1 : Shape := ⟨1, ![1]⟩
abbrev S1x1x1x256x256 : Shape := ⟨5, ![1, 1, 1, 256, 256]⟩
abbrev S1x2x2x256x256 : Shape := ⟨5, ![1, 2, 2, 256, 256]⟩
abbrev S2x2x256x256 : Shape := ⟨4, ![2, 2, 256, 256]⟩
abbrev S1x256x64 : Shape := ⟨3, ![1, 256, 64]⟩
abbrev S256x64 : Shape := ⟨2, ![256, 64]⟩
abbrev S64x256 : Shape := ⟨2, ![64, 256]⟩
abbrev S1x256x1 : Shape := ⟨3, ![1, 256, 1]⟩
abbrev S256x1 : Shape := ⟨2, ![256, 1]⟩
abbrev S256 : Shape := ⟨1, ![256]⟩

abbrev nBuf : Space → Nat
  | .hbm => 6
  | .vmem => 17
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S2x256x768, .f32⟩
  | .local _ .vmem, ⟨0, _⟩ => ⟨S2x256x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S256x768, .f32⟩
  | .local _ .vmem, ⟨5, _⟩ => ⟨S2x256x768, .f32⟩
  | .local _ .vmem, ⟨6, _⟩ => ⟨S2x256x256, .bf16⟩
  | .local _ .vmem, ⟨7, _⟩ => ⟨S2x256x256, .bf16⟩
  | .local _ .vmem, ⟨8, _⟩ => ⟨S2x256x256, .f32⟩
  | .local _ .vmem, ⟨9, _⟩ => ⟨S2x2x2x256x256, .bf16⟩
  | .local _ .vmem, ⟨10, _⟩ => ⟨S8x256x1, .f32⟩
  | .local _ .vmem, ⟨11, _⟩ => ⟨S8x256x64, .f32⟩
  | .local _ .vmem, ⟨12, _⟩ => ⟨S8x256x1, .f32⟩
  | .local _ .vmem, ⟨13, _⟩ => ⟨S8x256x64, .f32⟩
  | .local _ .vmem, ⟨14, _⟩ => ⟨S8x256x64, .bf16⟩
  | .local _ .vmem, ⟨15, _⟩ => ⟨S8x256x64, .bf16⟩
  | .local _ .vmem, ⟨16, _⟩ => ⟨S8x256x1, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v8 : BitVec 32 := Scalar.addi v2 c16_i32
  let c32_i32_5 : BitVec 32 := 32#32
  let v9 : BitVec 32 := Scalar.remsi v8 c32_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v8 : BitVec 32 := Scalar.addi v2 c16_i32
  let c32_i32_5 : BitVec 32 := 32#32
  let v9 : BitVec 32 := Scalar.remsi v8 c32_i32_5
  let c1_i32_59 : BitVec 32 := 1#32
  let v129 : BitVec 32 := Scalar.muli v9 c1_i32_59
  let v130 : BitVec 32 := Scalar.addi c0_i32_60 v129
  v130.toNat
@[reducible] def k0_t1_loop : Scf.Loop 32 :=
  let c0_i32_128 : BitVec 32 := 0#32
  let c15_i32 : BitVec 32 := 15#32
  let v207 : BitVec 32 := Scalar.addi c0_i32_128 c15_i32
  let c1_i32_129 : BitVec 32 := 1#32
  ⟨c0_i32_128, v207, c1_i32_129⟩
def k0_off1 (k0_t1 : Fin k0_t1_loop.trips) : Fin 1 → Nat :=
  let c0_i32_128 : BitVec 32 := 0#32
  let c1_i32_129 : BitVec 32 := 1#32
  let arg22 : BitVec 32 := Scf.iv c0_i32_128 c1_i32_129 k0_t1
  let c2_i32_616 : BitVec 32 := 2#32
  let v749 : BitVec 32 := Scalar.remsi arg22 c2_i32_616
  ![v749.toNat]
def k0_off2 (k0_t1 : Fin k0_t1_loop.trips) : Fin 1 → Nat :=
  let c0_i32_128 : BitVec 32 := 0#32
  let c1_i32_129 : BitVec 32 := 1#32
  let arg22 : BitVec 32 := Scf.iv c0_i32_128 c1_i32_129 k0_t1
  let c1_i32_617 : BitVec 32 := 1#32
  let v750 : BitVec 32 := Scalar.addi arg22 c1_i32_617
  let c2_i32_618 : BitVec 32 := 2#32
  let v751 : BitVec 32 := Scalar.remsi v750 c2_i32_618
  ![v751.toNat]
def k0_off3 (k0_t1 : Fin k0_t1_loop.trips) : Fin 5 → Nat :=
  let c0_i32_128 : BitVec 32 := 0#32
  let c1_i32_129 : BitVec 32 := 1#32
  let arg22 : BitVec 32 := Scf.iv c0_i32_128 c1_i32_129 k0_t1
  let c1_i32_617 : BitVec 32 := 1#32
  let v750 : BitVec 32 := Scalar.addi arg22 c1_i32_617
  let c2_i32_618 : BitVec 32 := 2#32
  let v751 : BitVec 32 := Scalar.remsi v750 c2_i32_618
  let c0_i32_621 : BitVec 32 := 0#32
  let c0_i32_622 : BitVec 32 := 0#32
  let c0_i32_623 : BitVec 32 := 0#32
  let c0_i32_624 : BitVec 32 := 0#32
  ![v751.toNat, 0, 0, 0, 0]
def k0_off4 (k0_t1 : Fin k0_t1_loop.trips) : Fin 5 → Nat :=
  let c0_i32_128 : BitVec 32 := 0#32
  let c1_i32_129 : BitVec 32 := 1#32
  let arg22 : BitVec 32 := Scf.iv c0_i32_128 c1_i32_129 k0_t1
  let c2_i32_616 : BitVec 32 := 2#32
  let v749 : BitVec 32 := Scalar.remsi arg22 c2_i32_616
  let c0_i32_625 : BitVec 32 := 0#32
  let c0_i32_626 : BitVec 32 := 0#32
  let c0_i32_627 : BitVec 32 := 0#32
  let c0_i32_628 : BitVec 32 := 0#32
  ![v749.toNat, 0, 0, 0, 0]
def k0_dev5 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_619 : BitVec 32 := 1#32
  let v752 : BitVec 32 := Scalar.muli v7 c1_i32_619
  let v753 : BitVec 32 := Scalar.addi c0_i32_620 v752
  v753.toNat
def k0_off5 (k0_t1 : Fin k0_t1_loop.trips) : Fin 5 → Nat :=
  let c0_i32_128 : BitVec 32 := 0#32
  let c1_i32_129 : BitVec 32 := 1#32
  let arg22 : BitVec 32 := Scf.iv c0_i32_128 c1_i32_129 k0_t1
  let c2_i32_616 : BitVec 32 := 2#32
  let v749 : BitVec 32 := Scalar.remsi arg22 c2_i32_616
  let v762 : Index := Scalar.indexCast v749
  let c0_629 : Index := 0#32
  let c0_630 : Index := 0#32
  let c0_631 : Index := 0#32
  let c0_632 : Index := 0#32
  ![v762.toNat, 0, 0, 0, 0]
def k0_off6 (k0_t1 : Fin k0_t1_loop.trips) : Fin 5 → Nat :=
  let c0_i32_128 : BitVec 32 := 0#32
  let c1_i32_129 : BitVec 32 := 1#32
  let arg22 : BitVec 32 := Scf.iv c0_i32_128 c1_i32_129 k0_t1
  let c2_i32_616 : BitVec 32 := 2#32
  let v749 : BitVec 32 := Scalar.remsi arg22 c2_i32_616
  let v765 : Index := Scalar.indexCast v749
  let c1_633 : Index := 1#32
  let c0_634 : Index := 0#32
  let c0_635 : Index := 0#32
  let c0_636 : Index := 0#32
  ![v765.toNat, 1, 0, 0, 0]
def k0_off7 (k0_t1 : Fin k0_t1_loop.trips) : Fin 5 → Nat :=
  let c0_i32_128 : BitVec 32 := 0#32
  let c1_i32_129 : BitVec 32 := 1#32
  let arg22 : BitVec 32 := Scf.iv c0_i32_128 c1_i32_129 k0_t1
  let c2_i32_616 : BitVec 32 := 2#32
  let v749 : BitVec 32 := Scalar.remsi arg22 c2_i32_616
  let v856 : Index := Scalar.indexCast v749
  let c0_709 : Index := 0#32
  let c1_710 : Index := 1#32
  let c0_711 : Index := 0#32
  let c0_712 : Index := 0#32
  ![v856.toNat, 0, 1, 0, 0]
def k0_off8 (k0_t1 : Fin k0_t1_loop.trips) : Fin 5 → Nat :=
  let c0_i32_128 : BitVec 32 := 0#32
  let c1_i32_129 : BitVec 32 := 1#32
  let arg22 : BitVec 32 := Scf.iv c0_i32_128 c1_i32_129 k0_t1
  let c2_i32_616 : BitVec 32 := 2#32
  let v749 : BitVec 32 := Scalar.remsi arg22 c2_i32_616
  let v859 : Index := Scalar.indexCast v749
  let c1_713 : Index := 1#32
  let c1_714 : Index := 1#32
  let c0_715 : Index := 0#32
  let c0_716 : Index := 0#32
  ![v859.toNat, 1, 1, 0, 0]
def k0_dev6 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_969 : BitVec 32 := 1#32
  let v1152 : BitVec 32 := Scalar.muli v5 c1_i32_969
  let v1153 : BitVec 32 := Scalar.addi c0_i32_970 v1152
  v1153.toNat
def k0_dev7 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v8 : BitVec 32 := Scalar.addi v2 c16_i32
  let c32_i32_5 : BitVec 32 := 32#32
  let v9 : BitVec 32 := Scalar.remsi v8 c32_i32_5
  let c1_i32_458 : BitVec 32 := 1#32
  let v581 : BitVec 32 := Scalar.muli v9 c1_i32_458
  let v582 : BitVec 32 := Scalar.addi c0_i32_459 v581
  v582.toNat
def k0_dev8 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v8 : BitVec 32 := Scalar.addi v2 c16_i32
  let c32_i32_5 : BitVec 32 := 32#32
  let v9 : BitVec 32 := Scalar.remsi v8 c32_i32_5
  let c1_i32_462 : BitVec 32 := 1#32
  let v587 : BitVec 32 := Scalar.muli v9 c1_i32_462
  let v588 : BitVec 32 := Scalar.addi c0_i32_463 v587
  v588.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x8192x768 : Shape := ⟨3, ![2, 8192, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x32x2 : Shape := ⟨3, ![8192, 32, 2]⟩
abbrev S8192x64 : Shape := ⟨2, ![8192, 64]⟩
abbrev S2x8192x256 : Shape := ⟨3, ![2, 8192, 256]⟩
abbrev S2x8192x4x64 : Shape := ⟨4, ![2, 8192, 4, 64]⟩
abbrev S2x8192x4x32x2 : Shape := ⟨5, ![2, 8192, 4, 32, 2]⟩
abbrev S2x8192x4x32x1 : Shape := ⟨5, ![2, 8192, 4, 32, 1]⟩
abbrev S2x8192x4x32 : Shape := ⟨4, ![2, 8192, 4, 32]⟩
abbrev S1x8192x1x64 : Shape := ⟨4, ![1, 8192, 1, 64]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩

abbrev nBuf : Space → Nat
  | .hbm => 94
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .i32⟩
  | .hbm, ⟨23, _⟩ => ⟨S8192x1, .i32⟩
  | .hbm, ⟨24, _⟩ => ⟨S1x32, .f32⟩
  | .hbm, ⟨25, _⟩ => ⟨S8192x1, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32x2, .f32⟩
  | .hbm, ⟨31, _⟩ => ⟨S8192x64, .f32⟩
  | .hbm, ⟨32, _⟩ => ⟨S8192x32, .f32⟩
  | .hbm, ⟨33, _⟩ => ⟨S8192x32x2, .f32⟩
  | .hbm, ⟨34, _⟩ => ⟨S8192x64, .f32⟩
  | .hbm, ⟨35, _⟩ => ⟨S2x8192x256, .f32⟩
  | .hbm, ⟨36, _⟩ => ⟨S2x8192x4x64, .f32⟩
  | .hbm, ⟨37, _⟩ => ⟨S2x8192x4x32x2, .f32⟩
  | .hbm, ⟨38, _⟩ => ⟨S2x8192x4x32x1, .f32⟩
  | .hbm, ⟨39, _⟩ => ⟨S2x8192x4x32, .f32⟩
  | .hbm, ⟨40, _⟩ => ⟨S2x8192x4x32, .f32⟩
  | .hbm, ⟨41, _⟩ => ⟨S2x8192x4x32x1, .f32⟩
  | .hbm, ⟨42, _⟩ => ⟨S2x8192x4x32, .f32⟩
  | .hbm, ⟨43, _⟩ => ⟨S2x8192x4x32x1, .f32⟩
  | .hbm, ⟨44, _⟩ => ⟨S2x8192x4x32x1, .f32⟩
  | .hbm, ⟨45, _⟩ => ⟨S2x8192x4x32x2, .f32⟩
  | .hbm, ⟨46, _⟩ => ⟨S2x8192x4x64, .f32⟩
  | .hbm, ⟨47, _⟩ => ⟨S1x8192x1x64, .f32⟩
  | .hbm, ⟨48, _⟩ => ⟨S2x8192x4x64, .f32⟩
  | .hbm, ⟨49, _⟩ => ⟨S2x8192x4x64, .f32⟩
  | .hbm, ⟨50, _⟩ => ⟨S1x8192x1x64, .f32⟩
  | .hbm, ⟨51, _⟩ => ⟨S2x8192x4x64, .f32⟩
  | .hbm, ⟨52, _⟩ => ⟨S2x8192x4x64, .f32⟩
  | .hbm, ⟨53, _⟩ => ⟨S2x8192x4x64, .f32⟩
  | .hbm, ⟨54, _⟩ => ⟨S2x8192x256, .f32⟩
  | .hbm, ⟨55, _⟩ => ⟨S2x8192x4x64, .f32⟩
  | .hbm, ⟨56, _⟩ => ⟨S2x8192x4x32x2, .f32⟩
  | .hbm, ⟨57, _⟩ => ⟨S2x8192x4x32x1, .f32⟩
  | .hbm, ⟨58, _⟩ => ⟨S2x8192x4x32, .f32⟩
  | .hbm, ⟨59, _⟩ => ⟨S2x8192x4x32, .f32⟩
  | .hbm, ⟨60, _⟩ => ⟨S2x8192x4x32x1, .f32⟩
  | .hbm, ⟨61, _⟩ => ⟨S2x8192x4x32, .f32⟩
  | .hbm, ⟨62, _⟩ => ⟨S2x8192x4x32x1, .f32⟩
  | .hbm, ⟨63, _⟩ => ⟨S2x8192x4x32x1, .f32⟩
  | .hbm, ⟨64, _⟩ => ⟨S2x8192x4x32x2, .f32⟩
  | .hbm, ⟨65, _⟩ => ⟨S2x8192x4x64, .f32⟩
  | .hbm, ⟨66, _⟩ => ⟨S1x8192x1x64, .f32⟩
  | .hbm, ⟨67, _⟩ => ⟨S2x8192x4x64, .f32⟩
  | .hbm, ⟨68, _⟩ => ⟨S2x8192x4x64, .f32⟩
  | .hbm, ⟨69, _⟩ => ⟨S1x8192x1x64, .f32⟩
  | .hbm, ⟨70, _⟩ => ⟨S2x8192x4x64, .f32⟩
  | .hbm, ⟨71, _⟩ => ⟨S2x8192x4x64, .f32⟩
  | .hbm, ⟨72, _⟩ => ⟨S2x8192x4x64, .f32⟩
  | .hbm, ⟨73, _⟩ => ⟨S2x8192x256, .f32⟩
  | .hbm, ⟨74, _⟩ => ⟨S2x8192x4x64, .f32⟩
  | .hbm, ⟨75, _⟩ => ⟨S2x4x8192x8192, .f32⟩
  | .hbm, ⟨76, _⟩ => ⟨S_, .f32⟩
  | .hbm, ⟨77, _⟩ => ⟨S2x4x8192x8192, .f32⟩
  | .hbm, ⟨78, _⟩ => ⟨S2x4x8192x8192, .f32⟩
  | .hbm, ⟨79, _⟩ => ⟨S_, .f32⟩
  | .hbm, ⟨80, _⟩ => ⟨S2x4x8192, .f32⟩
  | .hbm, ⟨81, _⟩ => ⟨S2x4x8192x1, .f32⟩
  | .hbm, ⟨82, _⟩ => ⟨S2x4x8192x8192, .f32⟩
  | .hbm, ⟨83, _⟩ => ⟨S2x4x8192x8192, .f32⟩
  | .hbm, ⟨84, _⟩ => ⟨S2x4x8192x8192, .f32⟩
  | .hbm, ⟨85, _⟩ => ⟨S_, .f32⟩
  | .hbm, ⟨86, _⟩ => ⟨S2x4x8192, .f32⟩
  | .hbm, ⟨87, _⟩ => ⟨S2x4x8192x1, .f32⟩
  | .hbm, ⟨88, _⟩ => ⟨S2x4x8192x8192, .f32⟩
  | .hbm, ⟨89, _⟩ => ⟨S2x4x8192x8192, .f32⟩
  | .hbm, ⟨90, _⟩ => ⟨S2x4x64x8192, .f32⟩
  | .hbm, ⟨91, _⟩ => ⟨S2x8192x4x64, .f32⟩
  | .hbm, ⟨92, _⟩ => ⟨S2x8192x256, .f32⟩
  | .hbm, ⟨93, _⟩ => ⟨S2x8192x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Ring.lean ====
/- The cross-device protocol of the kernel: the devices' neighbours, the semaphore cells, the buffers that change hands,
   the schedule of the cells' rounds (who pays, how much, what is handed over), what a device owes at each point and the
   levels that order the waits. The contents of the buffers that change hands are a parameter (`Vals`). -/
module

public import proofs.«01_k».proof.Proof.Gen.KernelIdeal.Frame
public import proofs.«01_k».proof.Proof.Gen.KernelIdeal.Loops
public import Idealize.ShloMosaic.Lib.Rounds
public import Idealize.ShloMosaic.Lib.Pipeline.Launch
public import Idealize.ShloMosaic.Lib.Pipeline.Kit
public import Idealize.ShloMosaic.Lib.Tactic
public import Mathlib.Algebra.Order.BigOperators.Group.LocallyFinite

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's own component and the protocol's rounds -/

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## Neighbours -/

/-- The device `k` places to the right. -/
def shift (k : ℕ) (c : Dev nD) : Dev nD := ⟨(c.val + k) % 32, Nat.mod_lt _ (by decide)⟩
abbrev left (c : Dev nD) : Dev nD := shift 31 c
abbrev right (c : Dev nD) : Dev nD := shift 1 c
abbrev partner (c : Dev nD) : Dev nD := shift 16 c
/-- The device whose block `c` holds after `h` hops. -/
abbrev origin (h : ℕ) (c : Dev nD) : Dev nD := shift (31 * h) c

theorem shift_shift (j k : ℕ) (c : Dev nD) : shift j (shift k c) = shift (k + j) c :=
  Fin.ext (by simp only [shift]; omega)
theorem shift_of_mod {k : ℕ} (h : k % 32 = 0) (c : Dev nD) : shift k c = c :=
  Fin.ext (by have h32 : c.val < 32 := c.isLt; simp only [shift]; omega)
theorem right_left (c : Dev nD) : right (left c) = c := (shift_shift 1 31 c).trans (shift_of_mod rfl c)
theorem left_right (c : Dev nD) : left (right c) = c := (shift_shift 31 1 c).trans (shift_of_mod rfl c)
theorem partner_partner (c : Dev nD) : partner (partner c) = c := (shift_shift 16 16 c).trans (shift_of_mod rfl c)
theorem origin_zero (c : Dev nD) : origin 0 c = c := shift_of_mod rfl c
theorem origin_right (h : ℕ) (c : Dev nD) : origin (h + 1) (right c) = origin h c :=
  Fin.ext (by simp only [origin, shift]; omega)
theorem origin_left (h : ℕ) (c : Dev nD) : origin h (left c) = origin (h + 1) c :=
  Fin.ext (by simp only [origin, shift]; omega)

theorem dev1_eq (c : Dev nD) : (⟨k0_dev1 c, k0_dev1_lt c⟩ : Dev nD) = left c := Fin.ext (k0_dev1_eq c)
theorem dev2_eq (c : Dev nD) : (⟨k0_dev2 c, k0_dev2_lt c⟩ : Dev nD) = right c := Fin.ext (k0_dev2_eq c)
theorem dev3_eq (c : Dev nD) : (⟨k0_dev3 c, k0_dev3_lt c⟩ : Dev nD) = partner c := Fin.ext (k0_dev3_eq c)
theorem dev4_eq (c : Dev nD) : (⟨k0_dev4 c, k0_dev4_lt c⟩ : Dev nD) = partner c := Fin.ext (k0_dev4_eq c)
theorem dev5_eq (c : Dev nD) : (⟨k0_dev5 c, k0_dev5_lt c⟩ : Dev nD) = right c := Fin.ext (k0_dev5_eq c)
theorem dev6_eq (c : Dev nD) : (⟨k0_dev6 c, k0_dev6_lt c⟩ : Dev nD) = left c := Fin.ext (k0_dev6_eq c)
theorem dev7_eq (c : Dev nD) : (⟨k0_dev7 c, k0_dev7_lt c⟩ : Dev nD) = partner c := Fin.ext (k0_dev7_eq c)
theorem dev8_eq (c : Dev nD) : (⟨k0_dev8 c, k0_dev8_lt c⟩ : Dev nD) = partner c := Fin.ext (k0_dev8_eq c)

/-! ## Cells -/

abbrev barS : Sem sig := (SemArray.scalar (sig.barrier 0 rfl) : Sems sig S_).sem

/-- The eleven semaphores of the protocol, numbered: 0 the barrier; 1, 2 the ring copies' departures from slot 0 and 1;
    3, 4 their arrivals in slot 0 and 1; 5, 6 the departure and the arrival of the copy of the queries; 7, 8 the departures
    and 9, 10 the arrivals of the two copies of partial sums. -/
def csem (i : Fin 11) : SemLoc sig :=
  if i.val = 0 then .reg barS else .dma ⟨i.val + 5, by have := i.isLt; show i.val + 5 < 16; omega⟩

/-- The number of a semaphore among the eleven (anything from 11 on: none of them). -/
def cls : SemLoc sig → ℕ
  | .reg _ => 0
  | .dma q => if q.val < 6 then 11 else q.val - 5

theorem cls_csem (i : Fin 11) : cls (csem i) = i.val := by
  unfold csem
  split_ifs with h
  · exact h.symm
  · show (if i.val + 5 < 6 then 11 else i.val + 5 - 5) = i.val
    rw [if_neg (by omega)]; omega

theorem csem_inj {i j : Fin 11} (h : csem i = csem j) : i = j :=
  Fin.ext (by rw [← cls_csem i, ← cls_csem j, h])

abbrev cell (i : Fin 11) (c : Dev nD) : GSem nD τ sig := ((c : Thread nD τ), csem i)

theorem cell_inj {i j : Fin 11} {c d : Dev nD} (h : cell i c = cell j d) : i = j ∧ c = d :=
  ⟨csem_inj (congrArg Prod.snd h), congrArg (fun g : GSem nD τ sig => g.1.1) h⟩

/-- The number of the departure semaphore, and of the arrival semaphore, of hop `h`. -/
def sendIx (h : ℕ) : Fin 11 := ⟨1 + h % 2, by omega⟩
def recvIx (h : ℕ) : Fin 11 := ⟨3 + (h + 1) % 2, by omega⟩

/-! ## The buffers that change hands -/

abbrev qM : Memref sig .tc .vmem S2x256x256 .bf16 := Memref.whole cc0_scratch0
abbrev qpM : Memref sig .tc .vmem S2x256x256 .bf16 := Memref.whole cc0_scratch1
abbrev ctxM : Memref sig .tc .vmem S2x256x256 .f32 := Memref.whole cc0_scratch2
abbrev commM : Memref sig .tc .vmem S2x2x2x256x256 .bf16 := Memref.whole cc0_scratch3
abbrev lM : Memref sig .tc .vmem S8x256x1 .f32 := Memref.whole cc0_scratch4
abbrev accM : Memref sig .tc .vmem S8x256x64 .f32 := Memref.whole cc0_scratch5
abbrev lpM : Memref sig .tc .vmem S8x256x1 .f32 := Memref.whole cc0_scratch6
abbrev accpM : Memref sig .tc .vmem S8x256x64 .f32 := Memref.whole cc0_scratch7
abbrev accbM : Memref sig .tc .vmem S8x256x64 .bf16 := Memref.whole cc0_scratch8
abbrev axM : Memref sig .tc .vmem S8x256x64 .bf16 := Memref.whole cc0_scratch9
abbrev lxM : Memref sig .tc .vmem S8x256x1 .f32 := Memref.whole cc0_scratch10

/-- A whole buffer of device `c` at contents `f`. -/
abbrev holds {s : Shape} {e : EltTy} (m : Memref sig .tc .vmem s e) (c : Dev nD) (f : Buf (Elt F) (m.view.loc (c : Thread nD τ))) : sProp 𝕄 :=
  m.view.loc (c : Thread nD τ) ↦[m.view.set]{fullShare} f

/-- Slot `s` of the ring buffer: the elements whose leading coordinate is `s`. -/
def slotSet (s : ℕ) : Finset (S2x2x2x256x256.Idx) := Finset.univ.filter fun i => (i (0 : Fin 5)).val = s

/-- Contents of the ring buffer that show the block `B` in every slot. -/
def bothSlots (B : Vec F S2x2x256x256 .bf16) : Vec F S2x2x2x256x256 .bf16 :=
  fun i => B (fun a => match a with | 0 => i (1 : Fin 5) | 1 => i (2 : Fin 5) | 2 => i (3 : Fin 5) | 3 => i (4 : Fin 5))

/-- Share `q` of slot `s` of device `c`, at contents `f`. -/
abbrev slot (s : ℕ) (c : Dev nD) (q : PosShare TreeShare) (f : Vec F S2x2x2x256x256 .bf16) : sProp 𝕄 :=
  commM.view.loc (c : Thread nD τ) ↦[slotSet s]{q} f

/-- What the copies carry: each device's queries, its keys and values, and the two partial sums it makes for its partner. -/
structure Vals (F : FTy → Type) [FloatOps F] where
  Q : Dev nD → Vec F S2x256x256 .bf16
  KV : Dev nD → Vec F S2x2x256x256 .bf16
  AX : Dev nD → Vec F S8x256x64 .bf16
  LX : Dev nD → Vec F S8x256x1 .f32

/-! ## Payloads -/

/-- What a device `c` gets from its right neighbour at round `r` of its barrier (`r < 15`): the right neighbour's slot that
    hop `r` fills, and that its arrival cell has reached the hop's round. -/
def ringPay (c : Dev nD) (r : ℕ) : sProp 𝕄 :=
  if r < 15 then iprop((∃ f, slot ((r + 1) % 2) (right c) fullShare f) ∗ reached ER (cell (recvIx r) (right c)) (r / 2)) else iprop(emp)

/-- What a device gets from its partner at the entry barrier: the three landing buffers of the partner, and that their
    arrival cells are at their only round. -/
def partnerPay (c : Dev nD) : sProp 𝕄 :=
  iprop(((∃ f, holds qpM (partner c) f) ∗ (∃ f, holds axM (partner c) f) ∗ (∃ f, holds lxM (partner c) f))
    ∗ reached ER (cell 6 (partner c)) 0 ∗ reached ER (cell 9 (partner c)) 0 ∗ reached ER (cell 10 (partner c)) 0)

def barPay (c : Dev nD) (r : ℕ) (d : Fin 3) : sProp 𝕄 :=
  if d = 1 then ringPay c r else if d = 2 then partnerPay c else iprop(emp)

variable (X : Vals F)

/-- What arrives with hop `h`: the device's own slot holding the block, and that the sender's barrier is at its next round. -/
def recvPay (c : Dev nD) (h : ℕ) : sProp 𝕄 :=
  iprop(slot ((h + 1) % 2) c fullShare (bothSlots (X.KV (origin (h + 1) c))) ∗ reached ER (cell 0 (left c)) (h + 1))

/-- What the departure of hop `h` gives back: the lent half of the slot. -/
def sendPay (c : Dev nD) (h : ℕ) : sProp 𝕄 := slot (h % 2) c fullShare.left (bothSlots (X.KV (origin h c)))

/-- The payload of cell `i` of device `c` at round `r`. -/
def pay (i : ℕ) (c : Dev nD) (r : ℕ) (d : Fin 3) : sProp 𝕄 :=
  match i with
  | 0 => barPay c r d
  | 1 => sendPay X c (2 * r)
  | 2 => sendPay X c (2 * r + 1)
  | 3 => recvPay X c (2 * r + 1)
  | 4 => recvPay X c (2 * r)
  | 5 => holds qM c (X.Q c)
  | 6 => holds qpM c (X.Q (partner c))
  | 7 => holds accbM c (X.AX c)
  | 8 => holds lpM c (X.LX c)
  | 9 => holds axM c (X.AX (partner c))
  | 10 => holds lxM c (X.LX (partner c))
  | _ => iprop(emp)

/-- The number of rounds of cell `i`. -/
def rounds : ℕ → ℕ
  | 0 => 16
  | 1 => 8
  | 2 => 7
  | 3 => 7
  | 4 => 8
  | 5 => 1
  | 6 => 1
  | 7 => 1
  | 8 => 1
  | 9 => 1
  | 10 => 1
  | _ => 0

/-- The amounts of the copies: of a block, of the queries, of the two partial sums. -/
abbrev NB : ℕ := ((commM.slice (Rect.unit (s := S2x2x2x256x256) ![0, 0, 0, 0, 0] S1x2x2x256x256.size (by decide)) (fun _ => rfl)).squeeze S2x2x256x256 squeezes_S1x2x2x256x256_S2x2x256x256).view.dmaCredit
abbrev NQ : ℕ := qM.view.dmaCredit
abbrev NA : ℕ := axM.view.dmaCredit
abbrev NL : ℕ := lxM.view.dmaCredit

def amt : ℕ → ℕ
  | 0 => 1
  | 1 => NB
  | 2 => NB
  | 3 => NB
  | 4 => NB
  | 5 => NQ
  | 6 => NQ
  | 7 => NA
  | 9 => NA
  | 8 => NL
  | 10 => NL
  | _ => 1

theorem amt_pos (i : ℕ) : 0 < amt i := by
  unfold amt
  split <;> first | exact Nat.one_pos | exact View.dmaCredit_pos _ (by decide)

def duts (i r : ℕ) : Finset (Fin 3) := if r < rounds i then (if i = 0 then (if r = 0 then Finset.univ else {1}) else {0}) else ∅

/-- The schedule. -/
def sched : Rounds.Schedule (GSem nD τ sig) (Fin 3) 𝕄 where
  duties g r := if g.1.2 = .tc then duts (cls g.2) r else ∅
  unitless _ := False
  amount g _ _ := amt (cls g.2)
  payload g r d := pay X (cls g.2) g.1.1 r d
  amount_pos g _ _ _ := amt_pos _

instance ringPay_storable (c : Dev nD) (r : ℕ) : BI.Storable (upEmb : UEmb _ 𝕄) (ringPay (F := F) c r) := by
  unfold ringPay; split_ifs <;> infer_instance
instance partnerPay_storable (c : Dev nD) : BI.Storable (upEmb : UEmb _ 𝕄) (partnerPay (F := F) c) := by
  unfold partnerPay
  have h1 : BI.Storable (upEmb : UEmb _ 𝕄) (iprop(∃ f, holds qpM (partner c) f)) := inferInstance
  have h2 : BI.Storable (upEmb : UEmb _ 𝕄) (iprop(∃ f, holds axM (partner c) f)) := inferInstance
  have h3 : BI.Storable (upEmb : UEmb _ 𝕄) (iprop(∃ f, holds lxM (partner c) f)) := inferInstance
  infer_instance
instance barPay_storable (c : Dev nD) (r : ℕ) (d : Fin 3) : BI.Storable (upEmb : UEmb _ 𝕄) (barPay (F := F) c r d) := by
  unfold barPay; split_ifs <;> infer_instance
instance pay_storable (i : ℕ) (c : Dev nD) (r : ℕ) (d : Fin 3) : BI.Storable (upEmb : UEmb _ 𝕄) (pay X i c r d) := by
  unfold pay recvPay sendPay; split <;> infer_instance
instance sched_storable (g : GSem nD τ sig) (r : ℕ) (d : Fin 3) : BI.Storable (upEmb : UEmb _ 𝕄) ((sched X).payload g r d) := by
  show BI.Storable upEmb (pay X (cls g.2) g.1.1 r d); infer_instance

/-! ## The schedule's tables -/

theorem duties_cell (i : Fin 11) (c : Dev nD) (r : ℕ) : (sched X).duties (cell i c) r = duts i.val r := by
  show (if (c : Thread nD τ).2 = .tc then duts (cls (csem i)) r else ∅) = _
  rw [if_pos rfl, cls_csem]
theorem amount_cell (i : Fin 11) (c : Dev nD) (r : ℕ) (d : Fin 3) : (sched X).amount (cell i c) r d = amt i.val := by
  show amt (cls (csem i)) = _; rw [cls_csem]
theorem payload_cell (i : Fin 11) (c : Dev nD) (r : ℕ) (d : Fin 3) : (sched X).payload (cell i c) r d = pay X i.val c r d := by
  show pay X (cls (csem i)) c r d = _; rw [cls_csem]
theorem duties_done (i : Fin 11) (c : Dev nD) : ∀ r, rounds i.val ≤ r → (sched X).duties (cell i c) r = ∅ := fun r hr => by
  rw [duties_cell]; unfold duts; rw [if_neg (by omega)]

/-- A cell other than the barrier has one duty a round; so has the barrier after its first round. -/
theorem duts_one {i r : ℕ} (hi : i ≠ 0) (hr : r < rounds i) : duts i r = {0} := by
  unfold duts; rw [if_pos hr, if_neg hi]
theorem duts_bar {r : ℕ} (h0 : r ≠ 0) (hr : r < 16) : duts 0 r = {1} := by
  unfold duts; rw [if_pos (by exact hr), if_pos rfl, if_neg h0]
theorem duts_bar0 : duts 0 0 = Finset.univ := by unfold duts; rw [if_pos (by decide), if_pos rfl, if_pos rfl]

theorem expect_one {i : Fin 11} (c : Dev nD) {r : ℕ} {d : Fin 3} (h : duts i.val r = {d}) : (sched X).expect (cell i c) r = amt i.val := by
  unfold Schedule.expect Schedule.amountOf; rw [duties_cell, h, Finset.sum_singleton, amount_cell]
theorem expect_bar0 (c : Dev nD) : (sched X).expect (cell 0 c) 0 = 3 := by
  unfold Schedule.expect Schedule.amountOf
  rw [duties_cell, show ((0 : Fin 11).val) = 0 from rfl, duts_bar0, Finset.sum_congr rfl fun d _ => amount_cell X 0 c 0 d]
  rfl

theorem rest_one {i : Fin 11} (c : Dev nD) {r : ℕ} {d : Fin 3} (h : duts i.val r = {d}) :
    bigSep ((sched X).duties (cell i c) r \ ∅) (fun d => (sched X).payload (cell i c) r d) = pay X i.val c r d := by
  rw [Finset.sdiff_empty, duties_cell, h, bigSep_singleton, payload_cell]
theorem rest_bar0 (c : Dev nD) :
    bigSep ((sched X).duties (cell 0 c) 0 \ ∅) (fun d => (sched X).payload (cell 0 c) 0 d) = iprop(emp ∗ ringPay c 0 ∗ partnerPay c) := by
  rw [Finset.sdiff_empty, duties_cell, show ((0 : Fin 11).val) = 0 from rfl, duts_bar0,
    bigSep_univ_eq_bigSepL [0, 1, 2] (by decide) (by decide), bigSepL_cons_cons, bigSepL_cons_cons, bigSepL_singleton,
    payload_cell, payload_cell, payload_cell]
  rfl

theorem sendIx_val (h : ℕ) : (sendIx h).val = 1 + h % 2 := rfl
theorem recvIx_val (h : ℕ) : (recvIx h).val = 3 + (h + 1) % 2 := rfl
theorem send_rounds {h : ℕ} (hh : h < 15) : h / 2 < rounds (sendIx h).val := by
  rw [sendIx_val]; rcases Nat.mod_two_eq_zero_or_one h with e | e <;> rw [e] <;> simp only [rounds] <;> omega
theorem recv_rounds {h : ℕ} (hh : h < 15) : h / 2 < rounds (recvIx h).val := by
  rw [recvIx_val]; rcases Nat.mod_two_eq_zero_or_one (h + 1) with e | e <;> rw [e] <;> simp only [rounds] <;> omega
theorem duts_send {h : ℕ} (hh : h < 15) : duts (sendIx h).val (h / 2) = {0} :=
  duts_one (by rw [sendIx_val]; omega) (send_rounds hh)
theorem duts_recv {h : ℕ} (hh : h < 15) : duts (recvIx h).val (h / 2) = {0} :=
  duts_one (by rw [recvIx_val]; omega) (recv_rounds hh)
theorem amt_send (h : ℕ) : amt (sendIx h).val = NB := by
  rw [sendIx_val]; rcases Nat.mod_two_eq_zero_or_one h with e | e <;> rw [e] <;> rfl
theorem amt_recv (h : ℕ) : amt (recvIx h).val = NB := by
  rw [recvIx_val]; rcases Nat.mod_two_eq_zero_or_one (h + 1) with e | e <;> rw [e] <;> rfl
theorem pay_send (c : Dev nD) (h : ℕ) (d : Fin 3) : pay X (sendIx h).val c (h / 2) d = sendPay X c h := by
  rw [sendIx_val]
  rcases Nat.mod_two_eq_zero_or_one h with e | e <;> rw [e]
  · show sendPay X c (2 * (h / 2)) = _; rw [show 2 * (h / 2) = h by omega]
  · show sendPay X c (2 * (h / 2) + 1) = _; rw [show 2 * (h / 2) + 1 = h by omega]
theorem pay_recv (c : Dev nD) (h : ℕ) (d : Fin 3) : pay X (recvIx h).val c (h / 2) d = recvPay X c h := by
  rw [recvIx_val]
  rcases Nat.mod_two_eq_zero_or_one (h + 1) with e | e <;> rw [e]
  · show recvPay X c (2 * (h / 2) + 1) = _; rw [show 2 * (h / 2) + 1 = h by omega]
  · show recvPay X c (2 * (h / 2)) = _; rw [show 2 * (h / 2) = h by omega]

/-! ## What a device owes, and the levels -/

/-- What hop `h` of device `c` pays: the block's credit to the right neighbour's arrival cell, one unit to the left
    neighbour's barrier. -/
def dueHop (c : Dev nD) (h : ℕ) : CellTallies nD τ sig ℕ :=
  tallyAt (cell 0 (left c)) (h + 1) 1 + tallyAt (cell (recvIx h) (right c)) h NB
/-- What the hops from `k` on pay. -/
def dueFrom (c : Dev nD) (k : ℕ) : CellTallies nD τ sig ℕ := ∑ h ∈ Finset.Ico k 15, dueHop c h
def dueAX (c : Dev nD) : CellTallies nD τ sig ℕ := tallyAt (cell 9 (partner c)) 0 NA
def dueLX (c : Dev nD) : CellTallies nD τ sig ℕ := tallyAt (cell 10 (partner c)) 0 NL
/-- What is owed at the loop's trip `k`. -/
def dueLoop (c : Dev nD) (k : ℕ) : CellTallies nD τ sig ℕ := (dueLX c + dueAX c) + dueFrom c k
def dueQ (c : Dev nD) : CellTallies nD τ sig ℕ := dueLoop c 0 + tallyAt (cell 6 (partner c)) 0 NQ
def due2 (c : Dev nD) : CellTallies nD τ sig ℕ := dueQ c + tallyAt (cell 0 (partner c)) 0 1
def due1 (c : Dev nD) : CellTallies nD τ sig ℕ := due2 c + tallyAt (cell 0 (right c)) 0 1
/-- What a device owes at launch. -/
def due0 (c : Dev nD) : CellTallies nD τ sig ℕ := due1 c + tallyAt (cell 0 (left c)) 0 1

theorem dueLoop_step (c : Dev nD) {k : ℕ} (hk : k < 15) :
    dueLoop c k = (dueLoop c (k + 1) + tallyAt (cell 0 (left c)) (k + 1) 1) + tallyAt (cell (recvIx k) (right c)) k NB := by
  unfold dueLoop dueFrom
  rw [Finset.sum_eq_sum_Ico_succ_bot hk, add_comm (dueHop c k), ← add_assoc]
  unfold dueHop
  rw [← add_assoc]
theorem dueLoop_end (c : Dev nD) : dueLoop c 15 = dueLX c + dueAX c := by
  unfold dueLoop dueFrom; rw [Finset.Ico_self, Finset.sum_empty, add_zero]

def L (g : GSem nD τ sig) : Finset ℕ := if g.1.2 = .tc then Finset.range 16 else ∅
/-- The level of cell number `i` at index `ι`. -/
def lvl (i ι : ℕ) : ℕ :=
  match i with
  | 0 => if ι = 0 then 1 else 2 * ι + 2
  | 3 => 2 * ι + 3
  | 4 => 2 * ι + 3
  | 6 => 2
  | 9 => 100
  | 10 => 100
  | _ => 0
def lv (g : GSem nD τ sig) (ι : ℕ) : ℕ := lvl (cls g.2) ι

theorem lv_cell (i : Fin 11) (c : Dev nD) (ι : ℕ) : lv (cell i c) ι = lvl i.val ι := by
  show lvl (cls (csem i)) ι = _; rw [cls_csem]
theorem lv_recv (h : ℕ) (c : Dev nD) (ι : ℕ) : lv (cell (recvIx h) c) ι = 2 * ι + 3 := by
  rw [lv_cell, recvIx_val]; rcases Nat.mod_two_eq_zero_or_one (h + 1) with e | e <;> rw [e] <;> rfl
theorem lv_send (h : ℕ) (c : Dev nD) (ι : ℕ) : lv (cell (sendIx h) c) ι = 0 := by
  rw [lv_cell, sendIx_val]; rcases Nat.mod_two_eq_zero_or_one h with e | e <;> rw [e] <;> rfl

theorem L_of_ne (g : GSem nD τ sig) (h : g.1.2 ≠ .tc) : L g = ∅ := if_neg h
theorem mem_L_tc (c : Dev nD) (sm : SemLoc sig) {ι : ℕ} (h : ι < 16) : ι ∈ L ((c : Thread nD τ), sm) := by
  unfold L; rw [if_pos rfl]; exact Finset.mem_range.mpr h

theorem tally_pos {g g' : GSem nD τ sig} {ι ι' n : ℕ} (h : 0 < (tallyAt g ι n : CellTallies nD τ sig ℕ) g' ι') : g' = g ∧ ι' = ι :=
  Pipeline.tallyAt_pos h
theorem add_pos_cases {T T' : CellTallies nD τ sig ℕ} {g : GSem nD τ sig} {ι : ℕ} (h : 0 < (T + T') g ι) : 0 < T g ι ∨ 0 < T' g ι := by
  rw [Pi.add_apply, Finsupp.add_apply] at h; omega

/-- Everything a tally holds lies on a TensorCore's cells, at an index below 16, at a level above `b`. -/
def Above (b : ℕ) (T : CellTallies nD τ sig ℕ) : Prop := ∀ g ι, 0 < T g ι → ι ∈ L g ∧ b < lv g ι

theorem Above.add {b : ℕ} {T T' : CellTallies nD τ sig ℕ} (h : Above b T) (h' : Above b T') : Above b (T + T') :=
  fun g ι hp => (add_pos_cases hp).elim (h g ι) (h' g ι)
theorem Above.mono {b b' : ℕ} {T : CellTallies nD τ sig ℕ} (h : Above b T) (hb : b' ≤ b) : Above b' T :=
  fun g ι hp => ⟨(h g ι hp).1, lt_of_le_of_lt hb (h g ι hp).2⟩
theorem Above.at {b : ℕ} {i : Fin 11} {c : Dev nD} {ι n : ℕ} (hι : ι < 16) (h : b < lvl i.val ι) : Above b (tallyAt (cell i c) ι n) := fun g κ hp => by
  obtain ⟨rfl, rfl⟩ := tally_pos hp
  exact ⟨mem_L_tc c _ hι, by rw [lv_cell]; exact h⟩
theorem Above.sum {b : ℕ} {s : Finset ℕ} {T : ℕ → CellTallies nD τ sig ℕ} (h : ∀ i ∈ s, Above b (T i)) : Above b (∑ i ∈ s, T i) := by
  induction s using Finset.induction_on with
  | empty => intro g ι hp; rw [Finset.sum_empty] at hp; exact absurd hp (Nat.lt_irrefl 0)
  | insert a s ha ih =>
    rw [Finset.sum_insert ha]
    exact (h a (Finset.mem_insert_self _ _)).add (ih fun i hi => h i (Finset.mem_insert_of_mem hi))

theorem above_hop (c : Dev nD) {h : ℕ} (hh : h < 15) : Above (2 * h + 2) (dueHop c h) := by
  refine Above.add (Above.at (by omega) ?_) (fun g ι hp => ?_)
  · show 2 * h + 2 < lvl 0 (h + 1); simp only [lvl]; rw [if_neg (by omega)]; omega
  · obtain ⟨rfl, rfl⟩ := tally_pos hp
    exact ⟨mem_L_tc _ _ (by omega), by rw [lv_recv]; omega⟩
theorem above_from (c : Dev nD) (k : ℕ) : Above (2 * k + 2) (dueFrom c k) :=
  Above.sum fun h hh => (above_hop c (Finset.mem_Ico.mp hh).2).mono (by have := (Finset.mem_Ico.mp hh).1; omega)
theorem above_px (c : Dev nD) : Above 99 (dueLX c + dueAX c) :=
  Above.add (Above.at (by decide) (by decide)) (Above.at (by decide) (by decide))
theorem above_loop (c : Dev nD) {k : ℕ} (hk : k ≤ 15) : Above (2 * k + 2) (dueLoop c k) :=
  ((above_px c).mono (by omega)).add (above_from c k)
theorem above_q (c : Dev nD) : Above 1 (dueQ c) := ((above_loop c (by omega)).mono (by omega)).add (Above.at (by decide) (by decide))
theorem above_0 (c : Dev nD) : Above 0 (due0 c) :=
  ((((above_q c).mono (by omega)).add (Above.at (by decide) (by decide))).add (Above.at (by decide) (by decide))).add (Above.at (by decide) (by decide))

/-- A device may wait on one of its cells at index `ι` when all it owes lies above that cell's level there. -/
theorem mayWait {c : Dev nD} {sm : SemLoc sig} {ι : ℕ} {T : CellTallies nD τ sig ℕ} (hι : ι < 16) (h : Above (lv ((c : Thread nD τ), sm) ι) T) :
    (levAts L lv : sProp 𝕄) ⊢ MayWait (c : Thread nD τ) sm ι T :=
  MayOwe.of_cut (L := L) (lev := lv) (lv ((c : Thread nD τ), sm) ι)
    (fun p hp => by rw [Finset.mem_singleton.mp hp]; exact mem_L_tc c sm hι) (fun g κ hg => (h g κ hg).1)
    (fun p hp => by rw [Finset.mem_singleton.mp hp]) (fun g κ hg => (h g κ hg).2)

end Cert.KernelIdeal.Run
end
-- ==== Proof.Slots.lean ====
/- The geometry of the buffers: the two slots of the ring buffer as the copies and the loads name them, and the buffers of
   partial sums as eight slabs, one per batch and head. -/
module

public import proofs.«01_k».proof.Proof.Ring

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots -/

/-- The view of a slot that the copies name: the ring buffer sliced at `off`, the unit axis dropped. -/
abbrev slotM (off : Fin 5 → ℕ) (h : ∀ a, off a + S1x2x2x256x256.size a ≤ S2x2x2x256x256.size a) : Memref sig .tc .vmem S2x2x256x256 .bf16 :=
  (commM.slice (Rect.unit (s := S2x2x2x256x256) off S1x2x2x256x256.size h) (fun _ => rfl)).squeeze S2x2x256x256 squeezes_S1x2x2x256x256_S2x2x256x256

theorem unsqueeze (x : S2x2x256x256.Idx) :
    Shape.reshapeEquiv squeezes_S1x2x2x256x256_S2x2x256x256.numel_eq x = (Fin.cons (⟨0, Nat.one_pos⟩ : Fin 1) x : S1x2x2x256x256.Idx) :=
  Shape.reshapeEquiv_cons_one (n := 4) (d := ![2, 2, 256, 256]) _ x

/-- Where the element `x` of slot `s` lies in the ring buffer. -/
def slotIx (s : ℕ) (hs : s < 2) (x : S2x2x256x256.Idx) : S2x2x2x256x256.Idx := fun a => match a with
  | 0 => ⟨s, hs⟩ | 1 => x (0 : Fin 4) | 2 => x (1 : Fin 4) | 3 => x (2 : Fin 4) | 4 => x (3 : Fin 4)

theorem slotM_emb {off : Fin 5 → ℕ} {s : ℕ} (hs : s < 2) (h) (e : off = ![s, 0, 0, 0, 0]) (x : S2x2x256x256.Idx) :
    (slotM off h).view.emb x = slotIx s hs x := by
  subst e
  show (Rect.unit (s := S2x2x2x256x256) ![s, 0, 0, 0, 0] S1x2x2x256x256.size h).emb
    (Shape.reshapeEquiv squeezes_S1x2x2x256x256_S2x2x256x256.numel_eq x) = _
  rw [unsqueeze]
  funext a
  refine Fin.ext ?_
  rw [Rect.emb_apply]
  fin_cases a
  · show s + 1 * 0 = s; omega
  · show 0 + 1 * (x (0 : Fin 4)).val = (x (0 : Fin 4)).val; omega
  · show 0 + 1 * (x (1 : Fin 4)).val = (x (1 : Fin 4)).val; omega
  · show 0 + 1 * (x (2 : Fin 4)).val = (x (2 : Fin 4)).val; omega
  · show 0 + 1 * (x (3 : Fin 4)).val = (x (3 : Fin 4)).val; omega

theorem mem_slotSet {s : ℕ} {i : S2x2x2x256x256.Idx} : i ∈ slotSet s ↔ (i (0 : Fin 5)).val = s := by
  unfold slotSet; rw [Finset.mem_filter]; exact ⟨fun h => h.2, fun h => ⟨Finset.mem_univ _, h⟩⟩

theorem slotIx_mem (s : ℕ) (hs : s < 2) (x : S2x2x256x256.Idx) : slotIx s hs x ∈ slotSet s := mem_slotSet.mpr rfl

/-- The element of slot coordinates an element of the ring buffer has. -/
def unslot (i : S2x2x2x256x256.Idx) : S2x2x256x256.Idx := fun a => match a with
  | 0 => i (1 : Fin 5) | 1 => i (2 : Fin 5) | 2 => i (3 : Fin 5) | 3 => i (4 : Fin 5)

theorem slotIx_unslot {s : ℕ} (hs : s < 2) {i : S2x2x2x256x256.Idx} (h : i ∈ slotSet s) : slotIx s hs (unslot i) = i := by
  funext a
  fin_cases a
  · exact Fin.ext (mem_slotSet.mp h).symm
  · rfl
  · rfl
  · rfl
  · rfl
theorem unslot_slotIx {s : ℕ} (hs : s < 2) (x : S2x2x256x256.Idx) : unslot (slotIx s hs x) = x := by
  funext a; fin_cases a <;> rfl

theorem bothSlots_eq (B : Vec F S2x2x256x256 .bf16) (i : S2x2x2x256x256.Idx) : bothSlots B i = B (unslot i) :=
  congrArg B (funext fun a => by fin_cases a <;> rfl)

theorem slotM_set {off : Fin 5 → ℕ} {s : ℕ} (hs : s < 2) (h) (e : off = ![s, 0, 0, 0, 0]) : (slotM off h).view.set = slotSet s := by
  ext i
  rw [View.set, Finset.mem_map]
  constructor
  · rintro ⟨x, -, rfl⟩
    have := slotM_emb hs h e x
    rw [show (slotM off h).view.emb x = slotIx s hs x from this]; exact slotIx_mem s hs x
  · intro hi
    exact ⟨unslot i, Finset.mem_univ _, (slotM_emb hs h e (unslot i)).trans (slotIx_unslot hs hi)⟩

/-- A slot read through its view shows the block it holds. -/
theorem slotM_read {off : Fin 5 → ℕ} {s : ℕ} (hs : s < 2) (h) (e : off = ![s, 0, 0, 0, 0]) (B : Vec F S2x2x256x256 .bf16) :
    (slotM off h).view.read (Elt F) (bothSlots B) = B := by
  funext x
  show bothSlots B ((slotM off h).view.emb x) = B x
  rw [show (slotM off h).view.emb x = slotIx s hs x from slotM_emb hs h e x, bothSlots_eq, unslot_slotIx]

/-- A block written whole through a slot's view is what the slot then holds. -/
theorem slotM_write {off : Fin 5 → ℕ} {s : ℕ} (hs : s < 2) (h) (e : off = ![s, 0, 0, 0, 0]) (f : Vec F S2x2x2x256x256 .bf16)
    (B : Vec F S2x2x256x256 .bf16) {i : S2x2x2x256x256.Idx} (hi : i ∈ slotSet s) :
    (slotM off h).view.write (Elt F) f B Finset.univ i = bothSlots B i := by
  have hx : (slotM off h).view.emb (unslot i) = i := (slotM_emb hs h e (unslot i)).trans (slotIx_unslot hs hi)
  rw [bothSlots_eq]
  conv_lhs => rw [← hx]
  exact (View.write_emb_of_mem (v := (slotM off h).view) f B (Finset.mem_univ (unslot i))).trans rfl

/-- A load of one tile of a slot lies within the slot. -/
theorem tile_subset {off : Fin 5 → ℕ} {s : ℕ} {k b : ℕ} (h : ∀ a, off a + S1x1x1x256x256.size a ≤ S2x2x2x256x256.size a)
    (e : off = ![s, k, b, 0, 0]) :
    commM.view.setOn (Rect.unit (s := S2x2x2x256x256) off S1x1x1x256x256.size h).toLoadRect.set ⊆ slotSet s := by
  subst e
  intro i hi
  obtain ⟨j, hj, rfl⟩ := Finset.mem_map.mp hi
  refine mem_slotSet.mpr ?_
  have hj' := ((Rect.unit (s := S2x2x2x256x256) ![s, k, b, 0, 0] S1x1x1x256x256.size h).toLoadRect.mem_set.mp hj) (0 : Fin 5)
  obtain ⟨t, ht, he⟩ := hj'
  have ht' : t < 1 := ht
  have he' : (j (0 : Fin 5) : ℕ) = s + 1 * t := he
  show (j (0 : Fin 5) : ℕ) = s
  omega

theorem tile_access {off : Fin 5 → ℕ} {s : ℕ} {k b : ℕ} (h : ∀ a, off a + S1x1x1x256x256.size a ≤ S2x2x2x256x256.size a)
    (e : off = ![s, k, b, 0, 0]) :
    (commM.access (Rect.unit (s := S2x2x2x256x256) off S1x1x1x256x256.size h) : View sig .tc .vmem _ _).set ⊆ slotSet s := by
  rw [show (commM.access (Rect.unit (s := S2x2x2x256x256) off S1x1x1x256x256.size h) : View sig .tc .vmem _ _).set
    = commM.view.setOn (Rect.unit (s := S2x2x2x256x256) off S1x1x1x256x256.size h).toLoadRect.set from View.set_slice _ _]
  exact tile_subset h e

/-- The tile `(k, b)` of a block (`k = 0` keys, `1` values; `b` the batch), as a load names it. -/
def tile (B : Vec F S2x2x256x256 .bf16) (k b : Fin 2) : Vec F S1x1x1x256x256 .bf16 := fun x =>
  B (fun a => match a with | 0 => k | 1 => b | 2 => x (3 : Fin 5) | 3 => x (4 : Fin 5))

theorem tile_read {off : Fin 5 → ℕ} {s : ℕ} {k b : Fin 2} (h : ∀ a, off a + S1x1x1x256x256.size a ≤ S2x2x2x256x256.size a)
    (e : off = ![s, k.val, b.val, 0, 0]) (B : Vec F S2x2x256x256 .bf16) :
    commM.view.readAt (Elt F) (Rect.unit (s := S2x2x2x256x256) off S1x1x1x256x256.size h).toLoadRect (bothSlots B) = tile B k b := by
  subst e
  funext x
  show bothSlots B ((Rect.unit (s := S2x2x2x256x256) ![s, k.val, b.val, 0, 0] S1x1x1x256x256.size h).toLoadRect.idx x) = _
  rw [bothSlots_eq]
  refine congrArg B (funext fun a => Fin.ext ?_)
  have h1 : (x (1 : Fin 5)).val < 1 := (x (1 : Fin 5)).isLt
  have h2 : (x (2 : Fin 5)).val < 1 := (x (2 : Fin 5)).isLt
  fin_cases a
  · show k.val + 1 * (x (1 : Fin 5)).val = k.val; omega
  · show b.val + 1 * (x (2 : Fin 5)).val = b.val; omega
  · show 0 + 1 * (x (3 : Fin 5)).val = (x (3 : Fin 5)).val; omega
  · show 0 + 1 * (x (4 : Fin 5)).val = (x (4 : Fin 5)).val; omega

/-! ## Slabs -/

/-- A buffer of eight slabs. -/
def slabL (L : Fin 8 → Vec F S1x256x1 .f32) : Vec F S8x256x1 .f32 := fun i => L (i (0 : Fin 3)) (fun a => match a with
  | 0 => (⟨0, Nat.one_pos⟩ : Fin 1) | 1 => i (1 : Fin 3) | 2 => i (2 : Fin 3))
def slabA {e : EltTy} (A : Fin 8 → Vec F S1x256x64 e) : Vec F S8x256x64 e := fun i => A (i (0 : Fin 3)) (fun a => match a with
  | 0 => (⟨0, Nat.one_pos⟩ : Fin 1) | 1 => i (1 : Fin 3) | 2 => i (2 : Fin 3))

theorem inbL (i : Fin 8) : ∀ a, (![i.val, 0, 0] : Fin 3 → ℕ) a + S1x256x1.size a ≤ S8x256x1.size a := by revert i; decide
theorem inbA (i : Fin 8) : ∀ a, (![i.val, 0, 0] : Fin 3 → ℕ) a + S1x256x64.size a ≤ S8x256x64.size a := by revert i; decide

abbrev rectL (i : Fin 8) : Rect S8x256x1 := Rect.unit (s := S8x256x1) ![i.val, 0, 0] S1x256x1.size (inbL i)
abbrev rectA (i : Fin 8) : Rect S8x256x64 := Rect.unit (s := S8x256x64) ![i.val, 0, 0] S1x256x64.size (inbA i)

theorem slabL_emb (L : Fin 8 → Vec F S1x256x1 .f32) (i : Fin 8) (x : S1x256x1.Idx) : slabL L ((rectL i).idx x) = L i x := by
  have h0 : (x (0 : Fin 3)).val < 1 := (x (0 : Fin 3)).isLt
  have hi : ((rectL i).idx x) (0 : Fin 3) = i := Fin.ext (by show i.val + 1 * (x (0 : Fin 3)).val = i.val; omega)
  unfold slabL
  rw [hi]
  refine congrArg (L i) (funext fun a => Fin.ext ?_)
  fin_cases a
  · show 0 = (x (0 : Fin 3)).val; omega
  · show 0 + 1 * (x (1 : Fin 3)).val = (x (1 : Fin 3)).val; omega
  · show 0 + 1 * (x (2 : Fin 3)).val = (x (2 : Fin 3)).val; omega
theorem slabA_emb {e : EltTy} (A : Fin 8 → Vec F S1x256x64 e) (i : Fin 8) (x : S1x256x64.Idx) : slabA A ((rectA i).idx x) = A i x := by
  have h0 : (x (0 : Fin 3)).val < 1 := (x (0 : Fin 3)).isLt
  have hi : ((rectA i).idx x) (0 : Fin 3) = i := Fin.ext (by show i.val + 1 * (x (0 : Fin 3)).val = i.val; omega)
  unfold slabA
  rw [hi]
  refine congrArg (A i) (funext fun a => Fin.ext ?_)
  fin_cases a
  · show 0 = (x (0 : Fin 3)).val; omega
  · show 0 + 1 * (x (1 : Fin 3)).val = (x (1 : Fin 3)).val; omega
  · show 0 + 1 * (x (2 : Fin 3)).val = (x (2 : Fin 3)).val; omega

end Cert.KernelIdeal.Run
end
-- ==== Proof.Heads.lean ====
/- One step of the attention over a block of keys and values, for each of the eight pairs (batch, head): the weights
   exp(score), the sums of the weights and the weighted sums of the values; and that the stores of one step, piece by
   piece, are the step as a whole. -/
module

public import proofs.«01_k».proof.Proof.Slots

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## One pair (batch, head) -/

/-- Batch and head of the pair `i`. -/
def bat (i : Fin 8) : Fin 2 := ⟨i.val / 4, by omega⟩
def hd (i : Fin 8) : Fin 4 := ⟨i.val % 4, by omega⟩

theorem slK (h : Fin 4) : S256x256.Slices ![64 * h.val, 0] S64x256 := by revert h; decide
theorem slV (h : Fin 4) : S256x256.Slices ![0, 64 * h.val] S256x64 := by revert h; decide
theorem inbQ (i : Fin 8) : ∀ a, (![(bat i).val, 0, 64 * (hd i).val] : Fin 3 → ℕ) a + S1x256x64.size a ≤ S2x256x256.size a := by
  revert i; decide

/-- The queries of the pair `i`, as a load from a query buffer gives them. -/
abbrev rectQ (i : Fin 8) : Rect S2x256x256 := Rect.unit (s := S2x256x256) ![(bat i).val, 0, 64 * (hd i).val] S1x256x64.size (inbQ i)

/-- The weights exp(score) of a head's queries `q` against the keys of the tile `kt` (transposed: features by positions). -/
def wts (h : Fin 4) (kt : Vec F S1x1x1x256x256 .bf16) (q : Vec F S1x256x64 .bf16) : FVec F S256x256 .f32 :=
  exp (matmul dot_S256x64_S64x256_S256x256_1_0_0_1_n_n none (shapeCast S256x64 q shapeCasts_S1x256x64_S256x64)
    (extractStridedSlice S64x256 ![64 * h.val, 0] (shapeCast S256x256 kt shapeCasts_S1x1x1x256x256_S256x256) (slK h))
    (constant S256x256 .f32 0x00000000#32))

/-- The sums of the weights, added to `l`. -/
def addL (h : Fin 4) (kt : Vec F S1x1x1x256x256 .bf16) (q : Vec F S1x256x64 .bf16) (l : Vec F S1x256x1 .f32) : FVec F S1x256x1 .f32 :=
  shapeCast S1x256x1 (addf (shapeCast S256x1 l shapeCasts_S1x256x1_S256x1)
    (shapeCast S256x1 (multiReduction .add [1] S256 (wts h kt q) 0x00000000#32 reduces_S256x256_S256 (.inl rfl) rfl) shapeCasts_S256_S256x1))
    shapeCasts_S256x1_S1x256x1

/-- The weighted sums of the values of the tile `vt`, added to `a`. -/
def addA (h : Fin 4) (kt vt : Vec F S1x1x1x256x256 .bf16) (q : Vec F S1x256x64 .bf16) (a : Vec F S1x256x64 .f32) : FVec F S1x256x64 .f32 :=
  shapeCast S1x256x64 (addf (shapeCast S256x64 a shapeCasts_S1x256x64_S256x64)
    (matmul dot_S256x256_S256x64_S256x64_1_0_0_1_n_n none (truncf .bf16 (wts h kt q) bitsLt_bf16_f32)
      (extractStridedSlice S256x64 ![0, 64 * h.val] (shapeCast S256x256 vt shapeCasts_S1x1x1x256x256_S256x256) (slV h))
      (constant S256x64 .f32 0x00000000#32)))
    shapeCasts_S256x64_S1x256x64

/-! ## The eight pairs -/

/-- The key tiles (one a batch) of a block, and the value tiles. -/
def kts (B : Vec F S2x2x256x256 .bf16) (b : Fin 2) : Vec F S1x1x1x256x256 .bf16 := tile B 0 b
def vts (B : Vec F S2x2x256x256 .bf16) (b : Fin 2) : Vec F S1x1x1x256x256 .bf16 := tile B 1 b

/-- One step of a buffer of sums of weights: `q` reads the pair's queries, `f` is the buffer. -/
def stepL (kt : Fin 2 → Vec F S1x1x1x256x256 .bf16) (q : Fin 8 → Vec F S1x256x64 .bf16) (f : Vec F S8x256x1 .f32) : Vec F S8x256x1 .f32 :=
  slabL fun i => addL (hd i) (kt (bat i)) (q i) fun x => f ((rectL i).idx x)
/-- One step of a buffer of weighted sums. -/
def stepA (kt vt : Fin 2 → Vec F S1x1x1x256x256 .bf16) (q : Fin 8 → Vec F S1x256x64 .bf16) (f : Vec F S8x256x64 .f32) : Vec F S8x256x64 .f32 :=
  slabA fun i => addA (hd i) (kt (bat i)) (vt (bat i)) (q i) fun x => f ((rectA i).idx x)

/-- The queries of each pair in a query buffer. -/
def qOf (Q : Vec F S2x256x256 .bf16) (i : Fin 8) : Vec F S1x256x64 .bf16 := fun x => Q ((rectQ i).idx x)

/-! ## Eight stores make a buffer of slabs -/

theorem pieces8 {s : Shape} {e : EltTy} (r : Fin 8 → Rect s) (w : (i : Fin 8) → (r i).shape.Idx → Elt F e) (G : s.Idx → Elt F e)
    (h : ∀ i x, G ((r i).emb x) = w i x) :
    ∀ p ∈ ([⟨r 7, w 7⟩, ⟨r 6, w 6⟩, ⟨r 5, w 5⟩, ⟨r 4, w 4⟩, ⟨r 3, w 3⟩, ⟨r 2, w 2⟩, ⟨r 1, w 1⟩, ⟨r 0, w 0⟩] : List (View.Piece (Elt F) s e)),
      ∀ x : p.1.shape.Idx, p.2 x = G (p.1.emb x) := by
  intro p hp
  simp only [List.mem_cons, List.not_mem_nil, or_false] at hp
  rcases hp with rfl | rfl | rfl | rfl | rfl | rfl | rfl | rfl <;> exact fun x => (h _ x).symm

theorem writes_l (f : Vec F S8x256x1 .f32) (w : Fin 8 → Vec F S1x256x1 .f32) :
    lM.view.writes (Elt F) f [⟨rectL 7, w 7⟩, ⟨rectL 6, w 6⟩, ⟨rectL 5, w 5⟩, ⟨rectL 4, w 4⟩, ⟨rectL 3, w 3⟩, ⟨rectL 2, w 2⟩, ⟨rectL 1, w 1⟩, ⟨rectL 0, w 0⟩] = slabL w :=
  View.contents_ext lM.view
    (fun y => (View.read_writes_apply_of_pieces lM.view f (slabL w) _ (pieces8 rectL w (slabL w) (slabL_emb w)) y
      (View.cover_of_tiled (s := S8x256x1) _ S1x256x1.size rfl y)).trans rfl)
    (fun i hi => absurd rfl (hi i))
theorem writes_lp (f : Vec F S8x256x1 .f32) (w : Fin 8 → Vec F S1x256x1 .f32) :
    lpM.view.writes (Elt F) f [⟨rectL 7, w 7⟩, ⟨rectL 6, w 6⟩, ⟨rectL 5, w 5⟩, ⟨rectL 4, w 4⟩, ⟨rectL 3, w 3⟩, ⟨rectL 2, w 2⟩, ⟨rectL 1, w 1⟩, ⟨rectL 0, w 0⟩] = slabL w :=
  View.contents_ext lpM.view
    (fun y => (View.read_writes_apply_of_pieces lpM.view f (slabL w) _ (pieces8 rectL w (slabL w) (slabL_emb w)) y
      (View.cover_of_tiled (s := S8x256x1) _ S1x256x1.size rfl y)).trans rfl)
    (fun i hi => absurd rfl (hi i))
theorem writes_acc (f : Vec F S8x256x64 .f32) (w : Fin 8 → Vec F S1x256x64 .f32) :
    accM.view.writes (Elt F) f [⟨rectA 7, w 7⟩, ⟨rectA 6, w 6⟩, ⟨rectA 5, w 5⟩, ⟨rectA 4, w 4⟩, ⟨rectA 3, w 3⟩, ⟨rectA 2, w 2⟩, ⟨rectA 1, w 1⟩, ⟨rectA 0, w 0⟩] = slabA w :=
  View.contents_ext accM.view
    (fun y => (View.read_writes_apply_of_pieces accM.view f (slabA w) _ (pieces8 rectA w (slabA w) (slabA_emb w)) y
      (View.cover_of_tiled (s := S8x256x64) _ S1x256x64.size rfl y)).trans rfl)
    (fun i hi => absurd rfl (hi i))
theorem writes_accp (f : Vec F S8x256x64 .f32) (w : Fin 8 → Vec F S1x256x64 .f32) :
    accpM.view.writes (Elt F) f [⟨rectA 7, w 7⟩, ⟨rectA 6, w 6⟩, ⟨rectA 5, w 5⟩, ⟨rectA 4, w 4⟩, ⟨rectA 3, w 3⟩, ⟨rectA 2, w 2⟩, ⟨rectA 1, w 1⟩, ⟨rectA 0, w 0⟩] = slabA w :=
  View.contents_ext accpM.view
    (fun y => (View.read_writes_apply_of_pieces accpM.view f (slabA w) _ (pieces8 rectA w (slabA w) (slabA_emb w)) y
      (View.cover_of_tiled (s := S8x256x64) _ S1x256x64.size rfl y)).trans rfl)
    (fun i hi => absurd rfl (hi i))

end Cert.KernelIdeal.Run
end
-- ==== Proof.Moves.lean ====
/- The protocol's moves, each at the number of its cell: a wait for a cell's whole round, a copy of a block to the right
   neighbour, a copy of a buffer to the partner, a unit to a neighbour's barrier. -/
module

public import proofs.«01_k».proof.Proof.Heads

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Vals F) (K : Dev nD × Fin 11 → ℕ)

/-- Device `c` owes `O`, whatever waits are recorded. -/
def owe (c : Dev nD) (O : CellTallies nD τ sig ℕ) : sProp 𝕄 := iprop(∃ W, owes (c : Thread nD τ) O W)

/-- The invariants of all cells, under the names `K`. -/
def records : sProp 𝕄 := bigSep Finset.univ fun p : Dev nD × Fin 11 => cellInv ER (sched X) (K p) (cell p.2 p.1)

instance records_persistent : BI.Persistent (records X K) := by unfold records; infer_instance

theorem inv_at (c : Dev nD) (i : Fin 11) : records X K ⊢ cellInv ER (sched X) (K (c, i)) (cell i c) :=
  bigSep_elim (Φ := fun p : Dev nD × Fin 11 => (cellInv ER (sched X) (K p) (cell p.2 p.1) : sProp 𝕄)) (Finset.mem_univ (c, i))

/-- The owner's place at a cell: round `r`, nothing of it taken, and that `r` is reached. -/
def stand (i : Fin 11) (c : Dev nD) (r : ℕ) : sProp 𝕄 := iprop(atPos ER (cell i c) r ∅ 0 ∗ reached ER (cell i c) r)

theorem pay_bar (c : Dev nD) (r : ℕ) (d : Fin 3) : pay X (0 : Fin 11).val c r d = barPay c r d := rfl

/-- A wait for the whole of a round with one payment. -/
theorem wp_wait_cell (c : Dev nD) (i : Fin 11) {w : TpuEff nD τ sig (Elt F) Λ₀ (c : Thread nD τ).2 PUnit} {sm : SemLoc sig} {n : ℕ} (hsm : sm = csem i)
    (hw : ∀ Q : PUnit → sProp 𝕄, wpE (defs₀ (F := F)) 𝒱₀ (c : Thread nD τ) none Set.univ w Q = waitSpec (c : Thread nD τ) Set.univ sm n Q)
    {r : ℕ} {d : Fin 3} (hd : duts i.val r = {d}) (hn : n = amt i.val) (ι : ℕ) (O : CellTallies nD τ sig ℕ) (hι : ι < 16)
    (hO : Above (lvl i.val ι) O) {α : Type} {Q : α → sProp 𝕄} (k : PUnit → Prog (TpuEff nD τ sig (Elt F) Λ₀ (c : Thread nD τ).2) α) :
    iprop(records X K ∗ levAts L lv ∗ cred (tallyAt (cell i c) ι (amt i.val)) ∗ owe c O ∗ stand i c r)
      ⊢ iprop(((owe c O ∗ stand i c (r + 1) ∗ pay X i.val c r d) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm hn
  unfold owe stand
  iintro ⟨#HI, #Hlev, Hc, ⟨%W, HO⟩, Hat, -⟩ Hk
  iapply (Rounds.wp_wait_rest_token 𝒱₀ ER (sched X) (c : Thread nD τ) none (κ := K (c, i)) hw (Set.mem_univ _) ι (O := O) (W := W)
      (R := r) (m := 0) (T := ∅) (by rw [Nat.zero_add]; exact (expect_one X c hd).symm)) $$ [Hc HO Hat]
  · isplitr; · iapply (inv_at X K c i); iexact HI
    isplitl [Hc]; · iexact Hc
    isplitl [HO]; · iexact HO
    isplitr
    · iapply (mayWait (F := F) hι (by rw [lv_cell]; exact hO)); iexact Hlev
    iexact Hat
  iintro ⟨HO, Hat, Hr, Hpay⟩
  iapply Hk
  isplitl [HO]; · iexists _; iexact HO
  isplitl [Hat Hr]
  · isplitl [Hat] <;> iassumption
  ihave Hp := (Entails.of_eq (rest_one X c hd)) $$ Hpay
  iexact Hp

/-- A copy of the block in slot `h % 2` to the right neighbour's slot `(h + 1) % 2`, at hop `h`: half of the slot is lent,
    the right neighbour's slot is at hand. -/
theorem wp_send_ring (c n : Dev nD) (hn : n = right c) {h : ℕ} (hh : h < 15) {off3 off4 : Fin 5 → ℕ}
    (h3 : ∀ a, off3 a + S1x2x2x256x256.size a ≤ S2x2x2x256x256.size a) (h4 : ∀ a, off4 a + S1x2x2x256x256.size a ≤ S2x2x2x256x256.size a)
    (e3 : off3 = ![(h + 1) % 2, 0, 0, 0, 0]) (e4 : off4 = ![h % 2, 0, 0, 0, 0])
    {sS sR : SemLoc sig} (hS : sS = csem (sendIx h)) (hR : sR = csem (recvIx h))
    {hsc : (slotM off3 h3).view.ref.isScScratch = false} {hsrc : (slotM off4 h4).view.WordExact} {hdst : (slotM off3 h3).view.WordExact}
    {hsem : DmaTarget.Typed .vmem sR (.remote (Dev.tc n : Thread nD τ) (slotM off3 h3) sS hsc)}
    {α : Type} {Q : α → sProp 𝕄} {k : PUnit → Prog (TpuEff nD τ sig (Elt F) Λ₀ .tc) α} (O : CellTallies nD τ sig ℕ) :
    iprop(records X K ∗ slot (h % 2) c fullShare.left (bothSlots (X.KV (origin h c))) ∗ ringPay c h ∗ reached ER (cell 0 c) (h + 1)
        ∗ owe c (O + tallyAt (cell (recvIx h) (right c)) h NB)
        ∗ dutyTok ER (cell (sendIx h) c) (h / 2) 0 ∗ reached ER (cell (sendIx h) c) (h / 2) ∗ dutyTok ER (cell (recvIx h) (right c)) (h / 2) 0)
      ⊢ iprop(((cred (tallyAt (cell (sendIx h) c) h NB) ∗ owe c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off4 h4) (.remote (Dev.tc n : Thread nD τ) (slotM off3 h3) sS hsc) sR hsrc hdst hsem) k) Q) := by
  subst hn hS hR
  have s4 := slotM_set (s := h % 2) (Nat.mod_lt _ (by decide)) h4 e4
  have s3 := slotM_set (s := (h + 1) % 2) (Nat.mod_lt _ (by decide)) h3 e3
  unfold owe ringPay
  rw [if_pos hh]
  iintro ⟨#HI, Hsrc, ⟨⟨%f, Hdst⟩, #HrR⟩, #HrB, ⟨%W, HO⟩, HtS, #HrS, HtR⟩ Hk
  iapply (Rounds.wp_send_pointsTo_with 𝒱₀ ER (sched X) (c : Thread nD τ) none (c' := (right c : Thread nD τ)) (sS := csem (sendIx h)) (sem := csem (recvIx h)) (src := slotM off4 h4) (dst := slotM off3 h3) (q := fullShare.left)
      (fs := bothSlots (X.KV (origin h c))) (fd := f) (F := reached ER (cell 0 c) (h + 1)) (κ₁ := K (c, sendIx h)) (κ₂ := K (right c, recvIx h))
      (r₁ := h / 2) (r₂ := h / 2) (d₁ := 0) (d₂ := 0)
      (by rw [show (sched X).duties ((c : Thread nD τ), csem (sendIx h)) (h / 2) = _ from duties_cell X (sendIx h) c (h / 2), duts_send hh]; exact Finset.mem_singleton_self _)
      (by rw [show (sched X).duties ((right c : Thread nD τ), csem (recvIx h)) (h / 2) = _ from duties_cell X (recvIx h) (right c) (h / 2), duts_recv hh]; exact Finset.mem_singleton_self _)
      h h NB (by unfold recvIx csem; rw [if_neg (by show ¬ 3 + (h + 1) % 2 = 0; omega)])
      ((amount_cell X (sendIx h) c _ _).trans (amt_send h)) ((amount_cell X (recvIx h) (right c) _ _).trans (amt_recv h))
      O rfl (W := W)
      (by
        rw [show (sched X).payload ((c : Thread nD τ), csem (sendIx h)) (h / 2) 0 = _ from payload_cell X (sendIx h) c (h / 2) 0, pay_send, s4]
        unfold sendPay; exact BI.Entails.refl _)
      (by
        rw [show (sched X).payload ((right c : Thread nD τ), csem (recvIx h)) (h / 2) 0 = _ from payload_cell X (recvIx h) (right c) (h / 2) 0, pay_recv]
        unfold recvPay
        rw [left_right, origin_right, s3, slotM_read (Nat.mod_lt _ (by decide)) h4 e4]
        refine sep_mono_left (Entails.of_eq (pointsTo_congr fun i hi => ?_))
        exact slotM_write (Nat.mod_lt _ (by decide)) h3 e3 f _ hi)) $$ [Hsrc Hdst HO HtS HtR]
  · isplitr; · iapply (inv_at X K c (sendIx h)); iexact HI
    isplitr; · iapply (inv_at X K (right c) (recvIx h)); iexact HI
    rw [s4, s3]
    isplitl [Hsrc]; · iexact Hsrc
    isplitl [Hdst]
    · isplitl [Hdst]; · iexact Hdst
      iexact HrB
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- A copy of a whole buffer to a buffer of the partner. -/
theorem wp_send_partner (c n : Dev nD) (hn : n = partner c) {s : Shape} {e : EltTy} (src dst : Memref sig .tc .vmem s e) (iS iR : Fin 11)
    {sS sR : SemLoc sig} (hS : sS = csem iS) (hR : sR = csem iR) (f : Buf (Elt F) (src.view.loc (c : Thread nD τ)))
    (g : Buf (Elt F) (dst.view.loc (partner c : Thread nD τ))) (hd1 : duts iS.val 0 = {0}) (hd2 : duts iR.val 0 = {0})
    (hN : dst.view.amount (csem iR) = amt iR.val) (hN' : amt iS.val = amt iR.val)
    (hp1 : holds src c f ⊢ pay X iS.val c 0 0) (hp2 : holds dst (partner c) g ⊢ pay X iR.val (partner c) 0 0)
    (hw : ∀ fd : Buf (Elt F) (dst.view.loc (partner c : Thread nD τ)), dst.view.write (Elt F) fd (src.view.read (Elt F) f) Finset.univ = g)
    {hsc : dst.view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α} (O : CellTallies nD τ sig ℕ) :
    iprop(records X K ∗ holds src c f ∗ (∃ fd, holds dst (partner c) fd) ∗ owe c (O + tallyAt (cell iR (partner c)) 0 (amt iR.val))
        ∗ dutyTok ER (cell iS c) 0 0 ∗ reached ER (cell iS c) 0 ∗ dutyTok ER (cell iR (partner c)) 0 0 ∗ reached ER (cell iR (partner c)) 0)
      ⊢ iprop(((cred (tallyAt (cell iS c) 0 (amt iS.val)) ∗ owe c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hS hR
  rw [hN']
  unfold owe
  iintro ⟨#HI, Hsrc, ⟨%fd, Hdst⟩, ⟨%W, HO⟩, HtS, #HrS, HtR, #HrR⟩ Hk
  iapply (Rounds.wp_send_pointsTo 𝒱₀ ER (sched X) (c : Thread nD τ) none (c' := (partner c : Thread nD τ)) (sS := csem iS) (sem := csem iR)
      (src := src) (dst := dst) (q := fullShare) (fs := f) (fd := fd) (κ₁ := K (c, iS)) (κ₂ := K (partner c, iR)) (r₁ := 0) (r₂ := 0) (d₁ := 0) (d₂ := 0)
      (by rw [show (sched X).duties ((c : Thread nD τ), csem iS) 0 = _ from duties_cell X iS c 0, hd1]; exact Finset.mem_singleton_self _)
      (by rw [show (sched X).duties ((partner c : Thread nD τ), csem iR) 0 = _ from duties_cell X iR (partner c) 0, hd2]; exact Finset.mem_singleton_self _)
      0 0 (amt iR.val) hN ((amount_cell X iS c _ _).trans hN') (amount_cell X iR (partner c) _ _) O rfl (W := W)
      (by rw [show (sched X).payload ((c : Thread nD τ), csem iS) 0 0 = _ from payload_cell X iS c 0 0]; exact hp1)
      (by rw [show (sched X).payload ((partner c : Thread nD τ), csem iR) 0 0 = _ from payload_cell X iR (partner c) 0 0, hw fd]; exact hp2)) $$ [Hsrc Hdst HO HtS HtR]
  · isplitr; · iapply (inv_at X K c iS); iexact HI
    isplitr; · iapply (inv_at X K (partner c) iR); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- One unit to the barrier of device `n`, at round `r`, as its duty `d`. -/
theorem wp_signal_bar (c n m : Dev nD) (hn : n = m) {sm : Sem sig} (hsm : sm = barS) {r : ℕ} {d : Fin 3} (hd : d ∈ duts 0 r)
    {α : Type} {Q : α → sProp 𝕄} {k : PUnit → Prog (TpuEff nD τ sig (Elt F) Λ₀ .tc) α} (O : CellTallies nD τ sig ℕ) :
    iprop(records X K ∗ owe c (O + tallyAt (cell 0 m) r 1) ∗ dutyTok ER (cell 0 m) r d ∗ barPay m r d ∗ reached ER (cell 0 m) r)
      ⊢ iprop((owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm 1) k) Q) := by
  subst hn hsm
  unfold owe
  iintro ⟨#HI, ⟨%W, HO⟩, Ht, Hp, #Hr⟩ Hk
  iapply (Rounds.wp_signal 𝒱₀ ER (sched X) (c : Thread nD τ) none (dst := (n : Thread nD τ)) (κ := K (n, 0)) (r := r) (d := d)
      (by rw [show (sched X).duties ((n : Thread nD τ), .reg barS) r = _ from duties_cell X 0 n r]; exact hd)
      (amount_cell X 0 n r d) r O rfl) $$ [HO Ht Hp]
  · isplitr; · iapply (inv_at X K n 0); iexact HI
    isplitl [HO]; · iexact HO
    isplitl [Ht]; · iexact Ht
    isplitl [Hp]
    · rw [show (sched X).payload ((n : Thread nD τ), .reg barS) r d = _ from payload_cell X 0 n r d]
      iapply (Entails.of_eq (pay_bar X n r d).symm); iexact Hp
    iexact Hr
  iintro HO
  iapply Hk
  iexists W; iexact HO

end Cert.KernelIdeal.Run
end
-- ==== Proof.Hop.lean ====
/- What the ring protocol holds between trips of the loop, and how a trip ends: the copy out has left, the next block has
   come, the slot sent is handed to the left neighbour. -/
module

public import proofs.«01_k».proof.Proof.Moves

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Vals F) (K : Dev nD × Fin 11 → ℕ)

theorem trips_eq : k0_t1_loop.trips = 15 := by decide

/-- The tokens of the payments of the hops from `k` on. -/
def tokFrom (c : Dev nD) (k : ℕ) : sProp 𝕄 :=
  bigSep (Finset.Ico k 15) fun h => iprop(dutyTok ER (cell (recvIx h) (right c)) (h / 2) 0 ∗ dutyTok ER (cell (sendIx h) c) (h / 2) 0
    ∗ dutyTok ER (cell 0 (left c)) (h + 1) 1)
/-- The credits of the waits of the hops from `k` on. -/
def credFrom (c : Dev nD) (k : ℕ) : sProp 𝕄 :=
  bigSep (Finset.Ico k 15) fun h => iprop(cred (tallyAt (cell (recvIx h) c) h NB) ∗ cred (tallyAt (cell 0 c) (h + 1) 1))
/-- The places at the ring's cells before hop `k`. -/
def posAt (c : Dev nD) (k : ℕ) : sProp 𝕄 :=
  iprop(stand (sendIx k) c (k / 2) ∗ stand (sendIx (k + 1)) c ((k + 1) / 2) ∗ stand (recvIx k) c (k / 2) ∗ stand (recvIx (k + 1)) c ((k + 1) / 2)
    ∗ stand 0 c (k + 1))
/-- After the last hop the other slot stays with the device. -/
def spare (c : Dev nD) (k : ℕ) : sProp 𝕄 := if k < 15 then iprop(emp) else iprop(∃ f, slot ((k + 1) % 2) c fullShare f)

/-- What the protocol holds before hop `k`. -/
def ringAt (c : Dev nD) (k : ℕ) : sProp 𝕄 :=
  iprop(slot (k % 2) c fullShare (bothSlots (X.KV (origin k c))) ∗ ringPay c k ∗ spare c k ∗ posAt c k ∗ tokFrom c k ∗ credFrom c k ∗ owe c (dueLoop c k))

/-- The buffers of queries and partial sums. -/
def sums (c : Dev nD) (q qp : Vec F S2x256x256 .bf16) (l lp : Vec F S8x256x1 .f32) (a ap : Vec F S8x256x64 .f32) : sProp 𝕄 :=
  iprop(holds qM c q ∗ holds qpM c qp ∗ holds lM c l ∗ holds accM c a ∗ holds lpM c lp ∗ holds accpM c ap)

theorem tokFrom_step (c : Dev nD) {k : ℕ} (hk : k < 15) : (tokFrom c k : sProp 𝕄)
    = iprop((dutyTok ER (cell (recvIx k) (right c)) (k / 2) 0 ∗ dutyTok ER (cell (sendIx k) c) (k / 2) 0 ∗ dutyTok ER (cell 0 (left c)) (k + 1) 1) ∗ tokFrom c (k + 1)) := by
  unfold tokFrom
  rw [← Finset.insert_Ico_add_one_left_eq_Ico hk, bigSep_insert (by simp)]
  rfl
theorem credFrom_step (c : Dev nD) {k : ℕ} (hk : k < 15) : (credFrom c k : sProp 𝕄)
    = iprop((cred (tallyAt (cell (recvIx k) c) k NB) ∗ cred (tallyAt (cell 0 c) (k + 1) 1)) ∗ credFrom c (k + 1)) := by
  unfold credFrom
  rw [← Finset.insert_Ico_add_one_left_eq_Ico hk, bigSep_insert (by simp)]
  rfl

theorem send_sem (t : Fin k0_t1_loop.trips) :
    (SemLoc.dma ((cc0_scratch11.slice (Rect.unit (s := S2) (k0_off1 t) S1.size (k0_off1_inb t))).squeeze S_ squeezes_S1_S_).sem : SemLoc sig) = csem (sendIx t.val) := by
  revert t; decide +kernel
theorem recv_sem (t : Fin k0_t1_loop.trips) :
    (SemLoc.dma ((cc0_scratch12.slice (Rect.unit (s := S2) (k0_off2 t) S1.size (k0_off2_inb t))).squeeze S_ squeezes_S1_S_).sem : SemLoc sig) = csem (recvIx t.val) := by
  revert t; decide +kernel

/-- The slot a hop has sent goes to the left neighbour for its next hop, or stays when there is none. -/
theorem give (c : Dev nD) {k : ℕ} (f : Vec F S2x2x2x256x256 .bf16) :
    iprop(slot (k % 2) c fullShare f ∗ reached ER (cell (recvIx (k + 1)) c) ((k + 1) / 2))
      ⊢ (iprop(ringPay (left c) (k + 1) ∗ spare c (k + 1)) : sProp 𝕄) := by
  have e : (k + 1 + 1) % 2 = k % 2 := by omega
  unfold ringPay spare
  rw [right_left, e]
  iintro ⟨Hs, #Hr⟩
  by_cases hk : k + 1 < 15
  · rw [if_pos hk, if_pos hk]
    isplitl [Hs]
    · isplitl [Hs]; · iexists f; iexact Hs
      iexact Hr
    iempintro
  · rw [if_neg hk, if_neg hk]
    isplitr; · iempintro
    iexists f; iexact Hs

/-- The end of a trip: the copy out has left, the next block has come, the slot sent is given away. -/
theorem trip_end (c n : Dev nD) (hn : n = left c) (t : Fin k0_t1_loop.trips) {w1 w2 w3 w4 : TpuEff nD τ sig (Elt F) Λ₀ (c : Thread nD τ).2 PUnit}
    (h1 : ∀ Q : PUnit → sProp 𝕄, wpE (defs₀ (F := F)) 𝒱₀ (c : Thread nD τ) none Set.univ w1 Q = waitSpec (c : Thread nD τ) Set.univ (csem (sendIx t.val)) NB Q)
    (h2 : ∀ Q : PUnit → sProp 𝕄, wpE (defs₀ (F := F)) 𝒱₀ (c : Thread nD τ) none Set.univ w2 Q = waitSpec (c : Thread nD τ) Set.univ (csem (recvIx t.val)) NB Q)
    (h3 : w3 = .semSignal (Dev.tc n : Thread nD τ) barS 1)
    (h4 : ∀ Q : PUnit → sProp 𝕄, wpE (defs₀ (F := F)) 𝒱₀ (c : Thread nD τ) none Set.univ w4 Q = waitSpec (c : Thread nD τ) Set.univ (.reg barS) 1 Q)
    (Q : PUnit → sProp 𝕄) :
    iprop(records X K ∗ levAts L lv ∗ slot (t.val % 2) c fullShare.right (bothSlots (X.KV (origin t.val c))) ∗ posAt c t.val
        ∗ dutyTok ER (cell 0 (left c)) (t.val + 1) 1 ∗ tokFrom c (t.val + 1)
        ∗ (cred (tallyAt (cell (recvIx t.val) c) t.val NB) ∗ cred (tallyAt (cell 0 c) (t.val + 1) 1)) ∗ credFrom c (t.val + 1)
        ∗ cred (tallyAt (cell (sendIx t.val) c) t.val NB) ∗ owe c (dueLoop c (t.val + 1) + tallyAt (cell 0 (left c)) (t.val + 1) 1)
        ∗ (ringAt X c (t.val + 1) -∗ Q ⟨⟩))
      ⊢ wp frame (wpE (defs₀ (F := F)) 𝒱₀ (c : Thread nD τ) none) Set.univ
          (.op w1 fun _ => .ret PUnit.unit : Prog (TpuEff nD τ sig (Elt F) Λ₀ (c : Thread nD τ).2) PUnit) fun _ => wp frame (wpE (defs₀ (F := F)) 𝒱₀ (c : Thread nD τ) none) Set.univ
            (.op w2 fun _ => .op w3 fun _ => .op w4 fun _ => .ret PUnit.unit : Prog (TpuEff nD τ sig (Elt F) Λ₀ (c : Thread nD τ).2) PUnit) Q := by
  have hk : t.val < 15 := t.isLt.trans_eq trips_eq
  have eS : sendIx (t.val + 1 + 1) = sendIx t.val := Fin.ext (by rw [sendIx_val, sendIx_val]; omega)
  have eR : recvIx (t.val + 1 + 1) = recvIx t.val := Fin.ext (by rw [recvIx_val, recvIx_val]; omega)
  have e2 : (t.val + 1 + 1) / 2 = t.val / 2 + 1 := by omega
  have hL : Above (2 * (t.val + 1) + 2) (dueLoop c (t.val + 1)) := above_loop c (by omega)
  have hB : Above (2 * t.val + 3) (tallyAt (cell 0 (left c)) (t.val + 1) 1 : CellTallies nD τ sig ℕ) :=
    Above.at (by omega) (by show _ < lvl 0 (t.val + 1); simp only [lvl]; rw [if_neg (by omega)]; omega)
  subst h3
  unfold posAt
  iintro ⟨#HI, #Hlev, Hr, ⟨HpS, HpS', HpR, HpR', HpB⟩, HtB, Htoks, ⟨HcR, HcB⟩, Hcreds, HcS, HO, Hk⟩
  iapply (wp_wait_cell X K c (sendIx t.val) rfl h1 (duts_send hk) (amt_send t.val).symm t.val (dueLoop c (t.val + 1) + tallyAt (cell 0 (left c)) (t.val + 1) 1) (by omega)
    (by rw [← lv_cell (sendIx t.val) c, lv_send]; exact (hL.mono (by omega)).add (hB.mono (by omega)))) $$ [HcS HO HpS]
  · isplitr; · iexact HI
    isplitr; · iexact Hlev
    isplitl [HcS]; · rw [amt_send]; iexact HcS
    isplitl [HO]; · iexact HO
    iexact HpS
  iintro ⟨HO, HpS, Hl⟩
  ihave Hl := (Entails.of_eq (pay_send X c t.val 0)) $$ Hl
  unfold sendPay
  ihave Hs := (pointsTo_share (PosShare.mem_left_op_right fullShare)).2 $$ [Hl Hr]
  · isplitl [Hl]; · iexact Hl
    iexact Hr
  iapply (Entails.of_eq (wp_ret ..).symm)
  imodintro
  iapply (wp_wait_cell X K c (recvIx t.val) rfl h2 (duts_recv hk) (amt_recv t.val).symm t.val (dueLoop c (t.val + 1) + tallyAt (cell 0 (left c)) (t.val + 1) 1) (by omega)
    (by rw [← lv_cell (recvIx t.val) c, lv_recv]; exact (hL.mono (by omega)).add hB)) $$ [HcR HO HpR]
  · isplitr; · iexact HI
    isplitr; · iexact Hlev
    isplitl [HcR]; · rw [amt_recv]; iexact HcR
    isplitl [HO]; · iexact HO
    iexact HpR
  iintro ⟨HO, HpR, Hn⟩
  ihave Hn := (Entails.of_eq (pay_recv X c t.val 0)) $$ Hn
  unfold recvPay
  icases Hn with ⟨Hn, #HrL⟩
  unfold stand
  icases HpR' with ⟨HaR', #HrR'⟩
  ihave Hg := (give c (k := t.val) (bothSlots (X.KV (origin t.val c)))) $$ [Hs]
  · isplitl [Hs]; · iexact Hs
    iexact HrR'
  icases Hg with ⟨Hg, Hsp⟩
  iapply (wp_signal_bar X K c n (left c) hn rfl (r := t.val + 1) (d := 1) (by rw [duts_bar (by omega) (by omega)]; exact Finset.mem_singleton_self _)
    (dueLoop c (t.val + 1))) $$ [HO HtB Hg]
  · isplitr; · iexact HI
    isplitl [HO]; · iexact HO
    isplitl [HtB]; · iexact HtB
    isplitl [Hg]
    · rw [show (barPay (left c) (t.val + 1) 1 : sProp 𝕄) = ringPay (left c) (t.val + 1) from if_pos rfl]; iexact Hg
    iexact HrL
  iintro HO
  iapply (wp_wait_cell X K c 0 rfl h4 (duts_bar (r := t.val + 1) (by omega) (by omega)) rfl (t.val + 1) (dueLoop c (t.val + 1)) (by omega)
    (by show Above (lvl 0 (t.val + 1)) _; simp only [lvl]; rw [if_neg (by omega)]; exact hL)) $$ [HcB HO HpB]
  · isplitr; · iexact HI
    isplitr; · iexact Hlev
    isplitl [HcB]; · iexact HcB
    isplitl [HO]; · iexact HO
    unfold stand; iexact HpB
  iintro ⟨HO, HpB, Hp⟩
  ihave Hp := (Entails.of_eq ((pay_bar X c (t.val + 1) 1).trans (if_pos rfl))) $$ Hp
  iapply (Entails.of_eq (wp_ret ..).symm)
  imodintro
  iapply Hk
  unfold ringAt posAt
  rw [eS, eR, e2]
  unfold stand
  isplitl [Hn]; · iexact Hn
  isplitl [Hp]; · iexact Hp
  isplitl [Hsp]; · iexact Hsp
  isplitl [HpS HpS' HpR HaR' HpB]
  · isplitl [HpS']; · iexact HpS'
    isplitl [HpS]; · iexact HpS
    isplitl [HaR']
    · isplitl [HaR']; · iexact HaR'
      iexact HrR'
    isplitl [HpR]; · iexact HpR
    iexact HpB
  isplitl [Htoks]; · iexact Htoks
  isplitl [Hcreds]; · iexact Hcreds
  iexact HO

end Cert.KernelIdeal.Run
end
-- ==== Proof.Values.lean ====
/- What the devices compute, as functions of their inputs: queries, keys and values, the sums over the ring, the output. -/
module

public import proofs.«01_k».proof.Proof.Heads

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- One device's inputs, as its staged buffers hold them. -/
structure Ins (F : FTy → Type) [FloatOps F] where
  x : Vec F S2x256x768 .f32
  wq : Vec F S768x256 .f32
  wk : Vec F S768x256 .f32
  wv : Vec F S768x256 .f32
  wo : Vec F S256x768 .f32

abbrev sxM : Memref sig .tc .vmem S2x256x768 .f32 := Memref.whole cc0_stg0_0
abbrev swqM : Memref sig .tc .vmem S768x256 .f32 := Memref.whole cc0_stg1_0
abbrev swkM : Memref sig .tc .vmem S768x256 .f32 := Memref.whole cc0_stg2_0
abbrev swvM : Memref sig .tc .vmem S768x256 .f32 := Memref.whole cc0_stg3_0
abbrev swoM : Memref sig .tc .vmem S256x768 .f32 := Memref.whole cc0_stg4_0
abbrev soM : Memref sig .tc .vmem S2x256x768 .f32 := Memref.whole cc0_stg5_0

/-! ## Reads of the staged inputs -/

def x0 (x : Vec F S2x256x768 .f32) : Vec F S1x256x768 .f32 :=
  sxM.view.readAt (Elt F) (Rect.unit (s := S2x256x768) ![0, 0, 0] S1x256x768.size inb_S2x256x768_S1x256x768_0_0_0).toLoadRect x
def x1 (x : Vec F S2x256x768 .f32) : Vec F S1x256x768 .f32 :=
  sxM.view.readAt (Elt F) (Rect.unit (s := S2x256x768) ![1, 0, 0] S1x256x768.size inb_S2x256x768_S1x256x768_1_0_0).toLoadRect x

/-- The weights as loads of the whole buffers give them. -/
def rq (w : Vec F S768x256 .f32) : Vec F S768x256 .f32 :=
  swqM.view.readAt (Elt F) (Rect.unit (s := S768x256) ![0, 0] S768x256.size inb_S768x256_S768x256_0_0).toLoadRect w
def rk (w : Vec F S768x256 .f32) : Vec F S768x256 .f32 :=
  swkM.view.readAt (Elt F) (Rect.unit (s := S768x256) ![0, 0] S768x256.size inb_S768x256_S768x256_0_0).toLoadRect w
def rv (w : Vec F S768x256 .f32) : Vec F S768x256 .f32 :=
  swvM.view.readAt (Elt F) (Rect.unit (s := S768x256) ![0, 0] S768x256.size inb_S768x256_S768x256_0_0).toLoadRect w
def ro (w : Vec F S256x768 .f32) : Vec F S256x768 .f32 :=
  swoM.view.readAt (Elt F) (Rect.unit (s := S256x768) ![0, 0] S256x768.size inb_S256x768_S256x768_0_0).toLoadRect w

theorem zero2 : (![0, 0] : Fin 2 → ℕ) = fun _ => 0 := funext fun a => by fin_cases a <;> rfl
theorem zero3 : (![0, 0, 0] : Fin 3 → ℕ) = fun _ => 0 := funext fun a => by fin_cases a <;> rfl
theorem rq_eq (w : Vec F S768x256 .f32) : rq w = w := Memref.readAt_unit_zero (Elt F) cc0_stg1_0 zero2 _ w
theorem rk_eq (w : Vec F S768x256 .f32) : rk w = w := Memref.readAt_unit_zero (Elt F) cc0_stg2_0 zero2 _ w
theorem rv_eq (w : Vec F S768x256 .f32) : rv w = w := Memref.readAt_unit_zero (Elt F) cc0_stg3_0 zero2 _ w
theorem ro_eq (w : Vec F S256x768 .f32) : ro w = w := Memref.readAt_unit_zero (Elt F) cc0_stg4_0 zero2 _ w

/-! ## Buffers made of parts -/

/-- A buffer of two batches. -/
def slabQ {e : EltTy} (L : Fin 2 → Vec F S1x256x256 e) : Vec F S2x256x256 e := fun i => L (i (0 : Fin 3)) (fun a => match a with
  | 0 => (⟨0, Nat.one_pos⟩ : Fin 1) | 1 => i (1 : Fin 3) | 2 => i (2 : Fin 3))
/-- A block of keys (first index 0) and values (1), of two batches. -/
def slabKV (L : Fin 2 → Fin 2 → Vec F S1x1x1x256x256 .bf16) : Vec F S2x2x256x256 .bf16 := fun i => L (i (0 : Fin 4)) (i (1 : Fin 4)) (fun a => match a with
  | 0 => (⟨0, Nat.one_pos⟩ : Fin 1) | 1 => (⟨0, Nat.one_pos⟩ : Fin 1) | 2 => (⟨0, Nat.one_pos⟩ : Fin 1) | 3 => i (2 : Fin 4) | 4 => i (3 : Fin 4))

theorem tile_slabKV (L : Fin 2 → Fin 2 → Vec F S1x1x1x256x256 .bf16) (k b : Fin 2) : tile (slabKV L) k b = L k b := by
  funext x
  have h0 : (x (0 : Fin 5)).val < 1 := (x (0 : Fin 5)).isLt
  have h1 : (x (1 : Fin 5)).val < 1 := (x (1 : Fin 5)).isLt
  have h2 : (x (2 : Fin 5)).val < 1 := (x (2 : Fin 5)).isLt
  refine congrArg (L k b) (funext fun a => Fin.ext ?_)
  fin_cases a
  · show 0 = (x (0 : Fin 5)).val; omega
  · show 0 = (x (1 : Fin 5)).val; omega
  · show 0 = (x (2 : Fin 5)).val; omega
  · rfl
  · rfl

/-! ## The rotary tables and the projections -/

def devW (c : Dev nD) : BitVec 32 := Scalar.remsi (Scalar.divsi (Dev.word c) 1#32) 32#32
def colI : IVec S256x256 32 := iota .tc S256x256 32 [1] iota_S256x256_d1_w32
def rowI : IVec S256x256 32 := iota .tc S256x256 32 [0] iota_S256x256_d0_w32
def wrd64 : BitVec 32 := Scalar.select (Scalar.cmpi .eq 64#32 0#32) 1#32 64#32
def wrd2 : BitVec 32 := Scalar.select (Scalar.cmpi .eq 2#32 0#32) 1#32 2#32

/-- The cosines and the sines of the positions of device `c`. -/
def cosT (c : Dev nD) : FVec F S256x256 .f32 := k0_pay77 (F := F) (devW c) rowI wrd64 k0_pay72 k0_pay73 k0_pay74 k0_pay75
def sinT (c : Dev nD) : FVec F S256x256 .f32 := k0_pay78 (F := F) (devW c) rowI wrd64 k0_pay72 k0_pay73 k0_pay74 k0_pay75
/-- Where a column is even. -/
def evenT : IVec S256x256 1 := k0_pay79 colI wrd2

/-- The rotated queries of a batch of device `c`, the rotated keys (transposed), the values. -/
def qT (c : Dev nD) (I : Ins F) (b : Fin 2) : Vec F S1x256x256 .bf16 := match b with
  | 0 => k0_pay80 colI (cosT c) (sinT c) wrd2 (x0 I.x) (rq I.wq)
  | 1 => k0_pay82 (cosT c) (sinT c) evenT (k0_pay81 (x1 I.x)) (rq I.wq)
def kvT (c : Dev nD) (I : Ins F) (k b : Fin 2) : Vec F S1x1x1x256x256 .bf16 := match k, b with
  | 0, 0 => k0_pay85 (k0_pay84 (cosT c) (sinT c) evenT (x0 I.x) (rk I.wk))
  | 0, 1 => k0_pay88 (cosT c) (sinT c) evenT (x1 I.x) (rk I.wk)
  | 1, 0 => k0_pay86 (k0_pay83 (x0 I.x)) (rv I.wv)
  | 1, 1 => k0_pay89 (k0_pay87 (x1 I.x)) (rv I.wv)

variable (I : Dev nD → Ins F)

def vQ (c : Dev nD) : Vec F S2x256x256 .bf16 := slabQ (qT c (I c))
def vKV (c : Dev nD) : Vec F S2x2x256x256 .bf16 := slabKV (kvT c (I c))

/-! ## The sums over the ring -/

/-- The sums after `k` blocks, the block of step `k` that of device `c` less `k`: of weights, of weighted values. -/
def sumL (c : Dev nD) (q : Fin 8 → Vec F S1x256x64 .bf16) : ℕ → Vec F S8x256x1 .f32
  | 0 => k0_pay90
  | k + 1 => stepL (kts (vKV I (origin k c))) q (sumL c q k)
def sumA (c : Dev nD) (q : Fin 8 → Vec F S1x256x64 .bf16) : ℕ → Vec F S8x256x64 .f32
  | 0 => k0_pay92
  | k + 1 => stepA (kts (vKV I (origin k c))) (vts (vKV I (origin k c))) q (sumA c q k)

/-- A device's own sums over 16 blocks, and the sums it makes for its partner. -/
def ownL (c : Dev nD) : Vec F S8x256x1 .f32 := sumL I c (qOf (vQ I c)) 16
def ownA (c : Dev nD) : Vec F S8x256x64 .f32 := sumA I c (qOf (vQ I c)) 16
def forL (c : Dev nD) : Vec F S8x256x1 .f32 := sumL I c (qOf (vQ I (partner c))) 16
def forA (c : Dev nD) : Vec F S8x256x64 .f32 := sumA I c (qOf (vQ I (partner c))) 16

/-- What the copies carry. -/
def vals : Vals F where
  Q := vQ I
  KV := vKV I
  AX c := k0_pay160 (forA I c)
  LX := forL I

/-! ## The output -/

/-- The quotient of the pair `i`: own and partner's sums added, divided. -/
def quot (l lx : Vec F S1x256x1 .f32) (a : Vec F S1x256x64 .f32) (ax : Vec F S1x256x64 .bf16) : FVec F S1x256x64 .f32 := k0_pay161 l lx a ax

/-- The context of device `c`: at batch `b`, head `h`, feature `d` the pair's quotient. -/
def ctxP (c : Dev nD) (i : Fin 8) : FVec F S1x256x64 .f32 :=
  quot (fun x => ownL I c ((rectL i).idx x)) (fun x => forL I (partner c) ((rectL i).idx x)) (fun x => ownA I c ((rectA i).idx x))
    (fun x => (vals I).AX (partner c) ((rectA i).idx x))
def pairOf (i : S2x256x256.Idx) : Fin 8 := ⟨4 * (i (0 : Fin 3)).val + (i (2 : Fin 3)).val / 64, by
  have h0 : (i (0 : Fin 3)).val < 2 := (i (0 : Fin 3)).isLt
  have h2 : (i (2 : Fin 3)).val < 256 := (i (2 : Fin 3)).isLt
  omega⟩
def inHead (i : S2x256x256.Idx) : S1x256x64.Idx := fun a => match a with
  | 0 => (⟨0, Nat.one_pos⟩ : Fin 1) | 1 => i (1 : Fin 3) | 2 => (⟨(i (2 : Fin 3)).val % 64, Nat.mod_lt _ (by decide)⟩ : Fin 64)
def slabC (L : Fin 8 → Vec F S1x256x64 .f32) : Vec F S2x256x256 .f32 := fun i => L (pairOf i) (inHead i)
def vCtx (c : Dev nD) : Vec F S2x256x256 .f32 := slabC (ctxP I c)

/-- The two batches of the context and of the output. -/
def ctxB (C : Vec F S2x256x256 .f32) (b : Fin 2) : Vec F S1x256x256 .f32 := match b with
  | 0 => ctxM.view.readAt (Elt F) (Rect.unit (s := S2x256x256) ![0, 0, 0] S1x256x256.size inb_S2x256x256_S1x256x256_0_0_0).toLoadRect C
  | 1 => ctxM.view.readAt (Elt F) (Rect.unit (s := S2x256x256) ![1, 0, 0] S1x256x256.size inb_S2x256x256_S1x256x256_1_0_0).toLoadRect C
def slabO (L : Fin 2 → Vec F S1x256x768 .f32) : Vec F S2x256x768 .f32 := fun i => L (i (0 : Fin 3)) (fun a => match a with
  | 0 => (⟨0, Nat.one_pos⟩ : Fin 1) | 1 => i (1 : Fin 3) | 2 => i (2 : Fin 3))
/-- The output of device `c`. -/
def vOut (c : Dev nD) : Vec F S2x256x768 .f32 := slabO fun b => k0_pay1 (ctxB (vCtx I c) b) (ro (I c).wo)

end Cert.KernelIdeal.Run
end
-- ==== Proof.Phases.lean ====
/- The body in three phases: up to the loop's start, the loop and the last block, the exchange of partial sums and the output. -/
module

public import proofs.«01_k».proof.Proof.Values

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (arg0 : Memref sig .tc .vmem S2x256x768 .f32) (harg0 : arg0.IsWhole) (arg1 : Memref sig .tc .vmem S768x256 .f32) (harg1 : arg1.IsWhole) (arg2 : Memref sig .tc .vmem S768x256 .f32) (harg2 : arg2.IsWhole) (arg3 : Memref sig .tc .vmem S768x256 .f32) (harg3 : arg3.IsWhole) (arg4 : Memref sig .tc .vmem S256x768 .f32) (harg4 : arg4.IsWhole) (arg5 : Memref sig .tc .vmem S2x256x768 .f32) (harg5 : arg5.IsWhole) (arg6 : Memref sig .tc .vmem S2x256x256 .bf16) (harg6 : arg6.IsWhole) (arg7 : Memref sig .tc .vmem S2x256x256 .bf16) (harg7 : arg7.IsWhole) (arg8 : Memref sig .tc .vmem S2x256x256 .f32) (harg8 : arg8.IsWhole) (arg9 : Memref sig .tc .vmem S2x2x2x256x256 .bf16) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x1 .f32) (harg12 : arg12.IsWhole) (arg13 : Memref sig .tc .vmem S8x256x64 .f32) (harg13 : arg13.IsWhole) (arg14 : Memref sig .tc .vmem S8x256x64 .bf16) (harg14 : arg14.IsWhole) (arg15 : Memref sig .tc .vmem S8x256x64 .bf16) (harg15 : arg15.IsWhole) (arg16 : Memref sig .tc .vmem S8x256x1 .f32) (harg16 : arg16.IsWhole) (arg17 : DmaSems sig S2) (arg18 : DmaSems sig S2) (arg19 : DmaSems sig S2) (arg20 : DmaSems sig S2) (arg21 : DmaSems sig S2)

/-- Up to the wait for the departure of the queries. -/
def phase1 (k : Dev nD → BitVec 32 → BitVec 32 → BitVec 32 → Sems sig S_ → BitVec 32 → Prog (TpuEff nD τ sig (Elt F) Λ₀ .tc) PUnit) : Prog (TpuEff nD τ sig (Elt F) Λ₀ .tc) PUnit := do
  let ⟨d0, v2, v5, v7, v9, v10, v17, v18, v20, v22, v24, v26, v28⟩ : Σ' (d0 : Dev nD) (v2 : BitVec 32) (v5 : BitVec 32) (v7 : BitVec 32) (v9 : BitVec 32) (v10 : Sems sig S_) (v17 : IVec S256x256 32) (v18 : IVec S256x256 32) (v20 : BitVec 32) (v22 : IVec S256x256 32) (v24 : IVec S256x256 1) (v26 : IVec S256x256 1), IVec S256x256 1 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21
  let ⟨v71, v72, v74⟩ : Σ' (v71 : FVec F S256x256 .f32) (v72 : FVec F S256x256 .f32), BitVec 32 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v2 v18 v20 v22 v24 v26 v28
  let ⟨v90, v111⟩ : Σ' (v90 : IVec S256x256 1), FVec F S256x768 .f32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v17 v71 v72 v74
  let ⟨v136, v148⟩ : Σ' (v136 : FVec F S256x768 .f32), FVec F S256x256 .f32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 d0 v9 v71 v72 v90 v111
  let v161 : FVec F S256x768 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v71 v72 v90 v136 v148
  let c1_i32_126 : BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v161
  k d0 v5 v7 v9 v10 c1_i32_126

/-- The loop, the last block, the copies of the partial sums. -/
def phase2 (d0 : Dev nD) (v5 v7 v9 : BitVec 32) (v10 : Sems sig S_) (c1_i32_126 : BitVec 32) (k : BitVec 32 → Prog (TpuEff nD τ sig (Elt F) Λ₀ .tc) PUnit) : Prog (TpuEff nD τ sig (Elt F) Λ₀ .tc) PUnit := do
  let ⟨v209, v211, v226, v229⟩ : Σ' (v209 : FVec F S256x256 .bf16) (v211 : FVec F S256x256 .bf16) (v226 : FVec F S256x64 .f32), FVec F S256x64 .f32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 d0 v5 v7 v9 v10 c1_i32_126
  let v260 : FVec F S256x256 .f32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v209 v211 v226 v229
  let v282 : FVec F S256x256 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v209 v211 v260
  let ⟨v301, v303, v318, v319, v320⟩ : Σ' (v301 : FVec F S256x256 .bf16) (v303 : FVec F S256x256 .bf16) (v318 : FVec F S256x64 .f32) (v319 : FVec F S256x256 .bf16), FVec F S256x64 .bf16 ← k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v211 v282
  let v351 : FVec F S256x256 .f32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v301 v303 v318 v319 v320
  let v374 : FVec F S256x256 .f32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v301 v303 v351
  let ⟨v393, v395, v400, v410⟩ : Σ' (v393 : FVec F S256x256 .bf16) (v395 : FVec F S256x256 .bf16) (v400 : FVec F S256x256 .f32), FVec F S256x64 .f32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v303 v374
  let ⟨v441, v442⟩ : Σ' (v441 : FVec F S256x64 .bf16), FVec F S64x256 .bf16 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v393 v395 v400 v410
  let ⟨v466, v474⟩ : Σ' (v466 : FVec F S256x256 .f32), FVec F S1x256x1 .f32 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v393 v395 v441 v442
  let ⟨v485, v487, v492⟩ : Σ' (v485 : FVec F S256x256 .bf16) (v487 : FVec F S256x256 .bf16), FVec F S256x256 .f32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v395 v466 v474
  let v532 : Vec F S1x256x64 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v485 v487 v492
  let ⟨v558, v563, v564⟩ : Σ' (v558 : FVec F S256x256 .f32) (v563 : FVec F S256x1 .f32), Vec F S1x256x1 .f32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v485 v487 v532
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 d0 v9 v487 v558 v563 v564
  k v9

/-- The arrival of the partial sums, the output. -/
def phase3 (v9 : BitVec 32) : Prog (TpuEff nD τ sig (Elt F) Λ₀ .tc) PUnit := do
  let v621 : Vec F S1x256x1 .f32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v9
  k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v621
  let ⟨v678, v680⟩ : Σ' (v678 : FVec F S256x1 .f32), FVec F S256x1 .f32 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21
  let v710 : FVec F S256x1 .f32 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v678 v680
  k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v710
  let v741 : Vec F S1x256x256 .f32 ← Prog.lift (.load arg8 (Rect.unit (s := S2x256x256) ![1, 0, 0] S1x256x256.size inb_S2x256x256_S1x256x256_1_0_0).toLoadRect (View.loadsAt_vmem h_S1x256x256))
  let v743 : Vec F S256x768 .f32 ← Prog.lift (.load arg4 (Rect.unit (s := S256x768) ![0, 0] S256x768.size inb_S256x768_S256x768_0_0).toLoadRect (View.loadsAt_vmem h_S256x768))
  let v746 : Vec F S1x256x768 .f32 ← Prog.lift (.load arg5 (Rect.unit (s := S2x256x768) ![1, 0, 0] S1x256x768.size inb_S2x256x768_S1x256x768_1_0_0).toLoadRect (View.loadsAt_vmem h_S1x256x768))
  Prog.lift (.store arg5 (Rect.unit (s := S2x256x768) ![1, 0, 0] S1x256x768.size inb_S2x256x768_S1x256x768_1_0_0) (k0_pay1 v741 v743) Finset.univ (View.stores_vmem_bits_univ h_S1x256x768 rfl) (.inl rfl))
  pure ⟨⟩

theorem phases : cc0_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21
    = phase1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 fun d0 v5 v7 v9 v10 w => phase2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 d0 v5 v7 v9 v10 w fun v9 => phase3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 v9 := rfl
end

abbrev first (k : Dev nD → BitVec 32 → BitVec 32 → BitVec 32 → Sems sig S_ → BitVec 32 → Prog (TpuEff nD τ sig (Elt F) Λ₀ .tc) PUnit) : Prog (TpuEff nD τ sig (Elt F) Λ₀ .tc) PUnit :=
  phase1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 k
abbrev second (d0 : Dev nD) (v5 v7 v9 : BitVec 32) (v10 : Sems sig S_) (w : BitVec 32) (k : BitVec 32 → Prog (TpuEff nD τ sig (Elt F) Λ₀ .tc) PUnit) : Prog (TpuEff nD τ sig (Elt F) Λ₀ .tc) PUnit :=
  phase2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 d0 v5 v7 v9 v10 w k
abbrev third (v9 : BitVec 32) : Prog (TpuEff nD τ sig (Elt F) Λ₀ .tc) PUnit :=
  phase3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 v9

end Cert.KernelIdeal.Run
end
-- ==== Proof.Blocks.lean ====
/- The buffers the body writes part by part hold, once every part is written, the whole that the parts make up. -/
module

public import proofs.«01_k».proof.Proof.Values
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A block written tile by tile -/

theorem inbSlot (s : ℕ) (hs : s < 2) : ∀ a, (![s, 0, 0, 0, 0] : Fin 5 → ℕ) a + S1x2x2x256x256.size a ≤ S2x2x2x256x256.size a := by
  rcases (by omega : s = 0 ∨ s = 1) with rfl | rfl <;> decide

/-- Slot `s` of the ring buffer as a rectangle of it. -/
abbrev rectS (s : ℕ) (hs : s < 2) : Rect S2x2x2x256x256 := Rect.unit (s := S2x2x2x256x256) ![s, 0, 0, 0, 0] S1x2x2x256x256.size (inbSlot s hs)

theorem rectS_set (s : ℕ) (hs : s < 2) : commM.view.setOn (rectS s hs).set = slotSet s := by
  rw [← slotM_set hs (inbSlot s hs) rfl]
  ext i
  rw [View.set, View.setOn, Finset.mem_map, Finset.mem_map]
  constructor
  · rintro ⟨j, hj, rfl⟩
    obtain ⟨y, rfl⟩ := (rectS s hs).exists_idx_of_mem hj
    refine ⟨fun a => match a with | 0 => y (1 : Fin 5) | 1 => y (2 : Fin 5) | 2 => y (3 : Fin 5) | 3 => y (4 : Fin 5), Finset.mem_univ _, ?_⟩
    refine (slotM_emb hs (inbSlot s hs) rfl _).trans ?_
    have h0 : (y (0 : Fin 5)).val < 1 := (y (0 : Fin 5)).isLt
    funext a
    refine Fin.ext ?_
    fin_cases a
    · show s = s + 1 * (y (0 : Fin 5)).val; omega
    · show (y (1 : Fin 5)).val = 0 + 1 * (y (1 : Fin 5)).val; omega
    · show (y (2 : Fin 5)).val = 0 + 1 * (y (2 : Fin 5)).val; omega
    · show (y (3 : Fin 5)).val = 0 + 1 * (y (3 : Fin 5)).val; omega
    · show (y (4 : Fin 5)).val = 0 + 1 * (y (4 : Fin 5)).val; omega
  · rintro ⟨x, -, rfl⟩
    refine ⟨slotIx s hs x, ?_, (slotM_emb hs (inbSlot s hs) rfl x).symm⟩
    rw [LoadRect.mem_set]
    intro a
    fin_cases a
    · exact ⟨0, Nat.one_pos, by show s = s + 1 * 0; omega⟩
    · exact ⟨(x (0 : Fin 4)).val, (x (0 : Fin 4)).isLt, by show (x (0 : Fin 4)).val = 0 + 1 * (x (0 : Fin 4)).val; omega⟩
    · exact ⟨(x (1 : Fin 4)).val, (x (1 : Fin 4)).isLt, by show (x (1 : Fin 4)).val = 0 + 1 * (x (1 : Fin 4)).val; omega⟩
    · exact ⟨(x (2 : Fin 4)).val, (x (2 : Fin 4)).isLt, by show (x (2 : Fin 4)).val = 0 + 1 * (x (2 : Fin 4)).val; omega⟩
    · exact ⟨(x (3 : Fin 4)).val, (x (3 : Fin 4)).isLt, by show (x (3 : Fin 4)).val = 0 + 1 * (x (3 : Fin 4)).val; omega⟩

/-- The tile `(k, b)` of slot 0, as a rectangle of the ring buffer. -/
theorem inbT (k b : Fin 2) : ∀ a, (![0, k.val, b.val, 0, 0] : Fin 5 → ℕ) a + S1x1x1x256x256.size a ≤ S2x2x2x256x256.size a := by
  revert k b; decide
abbrev rectT (k b : Fin 2) : Rect S2x2x2x256x256 := Rect.unit (s := S2x2x2x256x256) ![0, k.val, b.val, 0, 0] S1x1x1x256x256.size (inbT k b)

theorem slabKV_emb (L : Fin 2 → Fin 2 → Vec F S1x1x1x256x256 .bf16) (k b : Fin 2) (x : S1x1x1x256x256.Idx) :
    bothSlots (slabKV L) ((rectT k b).emb x) = L k b x := by
  rw [← congrFun (tile_slabKV L k b) x]
  exact congrFun (tile_read (s := 0) (inbT k b) rfl (slabKV L)) x

theorem mem_rectT {i : S2x2x2x256x256.Idx} (h0 : (i (0 : Fin 5)).val = 0) (k b : Fin 2) (hk : (i (1 : Fin 5)).val = k.val) (hb : (i (2 : Fin 5)).val = b.val) :
    i ∈ (rectT k b).set := by
  have h3 : (i (3 : Fin 5)).val < 256 := (i (3 : Fin 5)).isLt
  have h4 : (i (4 : Fin 5)).val < 256 := (i (4 : Fin 5)).isLt
  rw [Rect.mem_set_unit]
  intro a
  fin_cases a
  · show 0 ≤ (i (0 : Fin 5)).val ∧ (i (0 : Fin 5)).val < 0 + 1; omega
  · show k.val ≤ (i (1 : Fin 5)).val ∧ (i (1 : Fin 5)).val < k.val + 1; omega
  · show b.val ≤ (i (2 : Fin 5)).val ∧ (i (2 : Fin 5)).val < b.val + 1; omega
  · show 0 ≤ (i (3 : Fin 5)).val ∧ (i (3 : Fin 5)).val < 0 + 256; omega
  · show 0 ≤ (i (4 : Fin 5)).val ∧ (i (4 : Fin 5)).val < 0 + 256; omega

/-- The four stores of a block. -/
abbrev kvPieces (L : Fin 2 → Fin 2 → Vec F S1x1x1x256x256 .bf16) : List (View.Piece (Elt F) S2x2x2x256x256 .bf16) :=
  [⟨rectT 1 1, L 1 1⟩, ⟨rectT 0 1, L 0 1⟩, ⟨rectT 1 0, L 1 0⟩, ⟨rectT 0 0, L 0 0⟩]

theorem kv_agree (L : Fin 2 → Fin 2 → Vec F S1x1x1x256x256 .bf16) :
    ∀ p ∈ kvPieces L, ∀ x : p.1.shape.Idx, p.2 x = bothSlots (slabKV L) (p.1.emb x) := by
  intro p hp
  simp only [kvPieces, List.mem_cons, List.not_mem_nil, or_false] at hp
  rcases hp with rfl | rfl | rfl | rfl
  · exact fun x => (slabKV_emb L 1 1 x).symm
  · exact fun x => (slabKV_emb L 0 1 x).symm
  · exact fun x => (slabKV_emb L 1 0 x).symm
  · exact fun x => (slabKV_emb L 0 0 x).symm

theorem kv_cover (L : Fin 2 → Fin 2 → Vec F S1x1x1x256x256 .bf16) {i : S2x2x2x256x256.Idx} (h0 : (i (0 : Fin 5)).val = 0) :
    ∃ p ∈ kvPieces L, i ∈ p.1.set := by
  have h1 : (i (1 : Fin 5)).val < 2 := (i (1 : Fin 5)).isLt
  have h2 : (i (2 : Fin 5)).val < 2 := (i (2 : Fin 5)).isLt
  rcases (by omega : (i (1 : Fin 5)).val = 0 ∨ (i (1 : Fin 5)).val = 1) with hk | hk <;> rcases (by omega : (i (2 : Fin 5)).val = 0 ∨ (i (2 : Fin 5)).val = 1) with hb | hb
  · exact ⟨⟨rectT 0 0, L 0 0⟩, List.mem_cons_of_mem _ (List.mem_cons_of_mem _ (List.mem_cons_of_mem _ (List.mem_cons_self ..))), mem_rectT h0 0 0 hk hb⟩
  · exact ⟨⟨rectT 0 1, L 0 1⟩, List.mem_cons_of_mem _ (List.mem_cons_self ..), mem_rectT h0 0 1 hk hb⟩
  · exact ⟨⟨rectT 1 0, L 1 0⟩, List.mem_cons_of_mem _ (List.mem_cons_of_mem _ (List.mem_cons_self ..)), mem_rectT h0 1 0 hk hb⟩
  · exact ⟨⟨rectT 1 1, L 1 1⟩, List.mem_cons_self .., mem_rectT h0 1 1 hk hb⟩

theorem kv_writes (f : Vec F S2x2x2x256x256 .bf16) (L : Fin 2 → Fin 2 → Vec F S1x1x1x256x256 .bf16) {i : S2x2x2x256x256.Idx} (hi : i ∈ slotSet 0) :
    commM.view.read (Elt F) (commM.view.writes (Elt F) f (kvPieces L)) i = bothSlots (slabKV L) i :=
  View.read_writes_apply_of_pieces commM.view f (bothSlots (slabKV L)) (kvPieces L) (kv_agree L) i (kv_cover L (mem_slotSet.mp hi))

theorem read_comm (g : Vec F S2x2x2x256x256 .bf16) (i : S2x2x2x256x256.Idx) : commM.view.read (Elt F) g i = g i := rfl

theorem kv_writes' (f : Vec F S2x2x2x256x256 .bf16) (L : Fin 2 → Fin 2 → Vec F S1x1x1x256x256 .bf16) {i : S2x2x2x256x256.Idx} (hi : i ∈ slotSet 0) :
    (commM.view.writes (Elt F) f (kvPieces L) : Vec F S2x2x2x256x256 .bf16) i = bothSlots (slabKV L) i :=
  (read_comm _ i).symm.trans (kv_writes f L hi)

theorem four_kv (f : Vec F S2x2x2x256x256 .bf16) (L : Fin 2 → Fin 2 → Vec F S1x1x1x256x256 .bf16) {f0 f1 f2 f3 : Vec F S1x1x1x256x256 .bf16}
    (h0 : f0 = L 0 0) (h1 : f1 = L 1 0) (h2 : f2 = L 0 1) (h3 : f3 = L 1 1) {i : S2x2x2x256x256.Idx} (hi : i ∈ slotSet 0) :
    (commM.view.writes (Elt F) f ([⟨rectT 1 1, f3⟩, ⟨rectT 0 1, f2⟩, ⟨rectT 1 0, f1⟩, ⟨rectT 0 0, f0⟩] : List (View.Piece (Elt F) S2x2x2x256x256 .bf16)) : Vec F S2x2x2x256x256 .bf16) i = bothSlots (slabKV L) i := by
  rw [h0, h1, h2, h3]
  exact kv_writes' f L hi

/-- Contents may be restated. -/
theorem holds_to {s : Shape} {e : EltTy} (m : Memref sig .tc .vmem s e) (c : Dev nD) {f g : Buf (Elt F) (m.view.loc (c : Thread nD τ))} (h : f = g) :
    (holds m c f : sProp 𝕄) ⊢ holds m c g := Entails.of_eq (congrArg _ h)

/-- A buffer written whole. -/
theorem whole_l (f w : Vec F S8x256x1 .f32) : lM.view.writes (Elt F) f [⟨Rect.unit (s := S8x256x1) ![0, 0, 0] S8x256x1.size inb_S8x256x1_S8x256x1_0_0_0, w⟩] = w :=
  (View.read_writes_full lM.view f inb_S8x256x1_S8x256x1_0_0_0 w [])
theorem whole_lp (f w : Vec F S8x256x1 .f32) : lpM.view.writes (Elt F) f [⟨Rect.unit (s := S8x256x1) ![0, 0, 0] S8x256x1.size inb_S8x256x1_S8x256x1_0_0_0, w⟩] = w :=
  (View.read_writes_full lpM.view f inb_S8x256x1_S8x256x1_0_0_0 w [])
theorem whole_acc (f w : Vec F S8x256x64 .f32) : accM.view.writes (Elt F) f [⟨Rect.unit (s := S8x256x64) ![0, 0, 0] S8x256x64.size inb_S8x256x64_S8x256x64_0_0_0, w⟩] = w :=
  (View.read_writes_full accM.view f inb_S8x256x64_S8x256x64_0_0_0 w [])
theorem whole_accp (f w : Vec F S8x256x64 .f32) : accpM.view.writes (Elt F) f [⟨Rect.unit (s := S8x256x64) ![0, 0, 0] S8x256x64.size inb_S8x256x64_S8x256x64_0_0_0, w⟩] = w :=
  (View.read_writes_full accpM.view f inb_S8x256x64_S8x256x64_0_0_0 w [])
theorem whole_accb (f w : Vec F S8x256x64 .bf16) : accbM.view.writes (Elt F) f [⟨Rect.unit (s := S8x256x64) ![0, 0, 0] S8x256x64.size inb_S8x256x64_S8x256x64_0_0_0, w⟩] = w :=
  (View.read_writes_full accbM.view f inb_S8x256x64_S8x256x64_0_0_0 w [])

/-! ## The queries written batch by batch, the output likewise -/

theorem inbB (b : Fin 2) : ∀ a, (![b.val, 0, 0] : Fin 3 → ℕ) a + S1x256x256.size a ≤ S2x256x256.size a := by revert b; decide
abbrev rectB (b : Fin 2) : Rect S2x256x256 := Rect.unit (s := S2x256x256) ![b.val, 0, 0] S1x256x256.size (inbB b)
theorem slabQ_emb {e : EltTy} (L : Fin 2 → Vec F S1x256x256 e) (b : Fin 2) (x : S1x256x256.Idx) : slabQ L ((rectB b).emb x) = L b x := by
  have h0 : (x (0 : Fin 3)).val < 1 := (x (0 : Fin 3)).isLt
  have hi : ((rectB b).emb x) (0 : Fin 3) = b := Fin.ext (by show b.val + 1 * (x (0 : Fin 3)).val = b.val; omega)
  unfold slabQ
  rw [hi]
  refine congrArg (L b) (funext fun a => Fin.ext ?_)
  fin_cases a
  · show 0 = (x (0 : Fin 3)).val; omega
  · show 0 + 1 * (x (1 : Fin 3)).val = (x (1 : Fin 3)).val; omega
  · show 0 + 1 * (x (2 : Fin 3)).val = (x (2 : Fin 3)).val; omega
theorem two_q (f : Vec F S2x256x256 .bf16) (L : Fin 2 → Vec F S1x256x256 .bf16) {f0 f1 : Vec F S1x256x256 .bf16} (h0 : f0 = L 0) (h1 : f1 = L 1) :
    qM.view.writes (Elt F) f [⟨rectB 1, f1⟩, ⟨rectB 0, f0⟩] = slabQ L := by
  subst h0 h1
  refine View.contents_ext qM.view (fun y => (View.read_writes_apply_of_pieces qM.view f (slabQ L) _ ?_ y
      (View.cover_of_tiled (s := S2x256x256) _ S1x256x256.size rfl y)).trans rfl) (fun i hi => absurd rfl (hi i))
  intro p hp
  simp only [List.mem_cons, List.not_mem_nil, or_false] at hp
  rcases hp with rfl | rfl <;> exact fun x => (slabQ_emb L _ x).symm

theorem inbO (b : Fin 2) : ∀ a, (![b.val, 0, 0] : Fin 3 → ℕ) a + S1x256x768.size a ≤ S2x256x768.size a := by revert b; decide
abbrev rectO (b : Fin 2) : Rect S2x256x768 := Rect.unit (s := S2x256x768) ![b.val, 0, 0] S1x256x768.size (inbO b)
theorem slabO_emb (L : Fin 2 → Vec F S1x256x768 .f32) (b : Fin 2) (x : S1x256x768.Idx) : slabO L ((rectO b).emb x) = L b x := by
  have h0 : (x (0 : Fin 3)).val < 1 := (x (0 : Fin 3)).isLt
  have hi : ((rectO b).emb x) (0 : Fin 3) = b := Fin.ext (by show b.val + 1 * (x (0 : Fin 3)).val = b.val; omega)
  unfold slabO
  rw [hi]
  refine congrArg (L b) (funext fun a => Fin.ext ?_)
  fin_cases a
  · show 0 = (x (0 : Fin 3)).val; omega
  · show 0 + 1 * (x (1 : Fin 3)).val = (x (1 : Fin 3)).val; omega
  · show 0 + 1 * (x (2 : Fin 3)).val = (x (2 : Fin 3)).val; omega
theorem two_out (f : Vec F S2x256x768 .f32) (L : Fin 2 → Vec F S1x256x768 .f32) {f0 f1 : Vec F S1x256x768 .f32} (h0 : f0 = L 0) (h1 : f1 = L 1) :
    soM.view.writes (Elt F) f [⟨rectO 1, f1⟩, ⟨rectO 0, f0⟩] = slabO L := by
  subst h0 h1
  refine View.contents_ext soM.view (fun y => (View.read_writes_apply_of_pieces soM.view f (slabO L) _ ?_ y
      (View.cover_of_tiled (s := S2x256x768) _ S1x256x768.size rfl y)).trans rfl) (fun i hi => absurd rfl (hi i))
  intro p hp
  simp only [List.mem_cons, List.not_mem_nil, or_false] at hp
  rcases hp with rfl | rfl <;> exact fun x => (slabO_emb L _ x).symm

/-! ## The context, head by head -/

theorem slabC_emb (L : Fin 8 → Vec F S1x256x64 .f32) (i : Fin 8) (x : S1x256x64.Idx) : slabC L ((rectQ i).emb x) = L i x := by
  have h0 : (x (0 : Fin 3)).val < 1 := (x (0 : Fin 3)).isLt
  have h2 : (x (2 : Fin 3)).val < 64 := (x (2 : Fin 3)).isLt
  have hb : (bat i).val = i.val / 4 := rfl
  have hh : (hd i).val = i.val % 4 := rfl
  have e0 : (((rectQ i).emb x) (0 : Fin 3)).val = (bat i).val + 1 * (x (0 : Fin 3)).val := rfl
  have e1 : (((rectQ i).emb x) (1 : Fin 3)).val = 0 + 1 * (x (1 : Fin 3)).val := rfl
  have e2 : (((rectQ i).emb x) (2 : Fin 3)).val = 64 * (hd i).val + 1 * (x (2 : Fin 3)).val := rfl
  have hp : pairOf ((rectQ i).emb x) = i := Fin.ext (by
    show 4 * (((rectQ i).emb x) (0 : Fin 3)).val + (((rectQ i).emb x) (2 : Fin 3)).val / 64 = i.val
    rw [e0, e2]; omega)
  unfold slabC
  rw [hp]
  refine congrArg (L i) (funext fun a => Fin.ext ?_)
  fin_cases a
  · show 0 = (x (0 : Fin 3)).val; omega
  · show (((rectQ i).emb x) (1 : Fin 3)).val = (x (1 : Fin 3)).val; rw [e1]; omega
  · show (((rectQ i).emb x) (2 : Fin 3)).val % 64 = (x (2 : Fin 3)).val; rw [e2]; omega
theorem eight_ctx (f : Vec F S2x256x256 .f32) (w : Fin 8 → Vec F S1x256x64 .f32) {f0 f1 f2 f3 f4 f5 f6 f7 : Vec F S1x256x64 .f32}
    (h0 : f0 = w 0) (h1 : f1 = w 1) (h2 : f2 = w 2) (h3 : f3 = w 3) (h4 : f4 = w 4) (h5 : f5 = w 5) (h6 : f6 = w 6) (h7 : f7 = w 7) :
    ctxM.view.writes (Elt F) f [⟨rectQ 7, f7⟩, ⟨rectQ 6, f6⟩, ⟨rectQ 5, f5⟩, ⟨rectQ 4, f4⟩, ⟨rectQ 3, f3⟩, ⟨rectQ 2, f2⟩, ⟨rectQ 1, f1⟩, ⟨rectQ 0, f0⟩] = slabC w := by
  subst h0 h1 h2 h3 h4 h5 h6 h7
  exact View.contents_ext ctxM.view
    (fun y => (View.read_writes_apply_of_pieces ctxM.view f (slabC w) _ (pieces8 rectQ w (slabC w) (slabC_emb w)) y
      (View.cover_of_tiled (s := S2x256x256) _ S1x256x64.size rfl y)).trans rfl)
    (fun i hi => absurd rfl (hi i))

end Cert.KernelIdeal.Run
end
-- ==== Proof.Start.lean ====
/- The first phase of the body: the entry barrier, the projections, the copy of the queries to the partner. -/
module

public import proofs.«01_k».proof.Proof.Hop
public import proofs.«01_k».proof.Proof.Phases
public import proofs.«01_k».proof.Proof.Blocks

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Dev nD → Ins F) (K : Dev nD × Fin 11 → ℕ)

/-- The tokens of the payments a device makes outside the ring: before the loop, after it. -/
def toksE (c : Dev nD) : sProp 𝕄 :=
  iprop(dutyTok ER (cell 0 (left c)) 0 1 ∗ dutyTok ER (cell 0 (right c)) 0 0 ∗ dutyTok ER (cell 0 (partner c)) 0 2
    ∗ dutyTok ER (cell 5 c) 0 0 ∗ dutyTok ER (cell 6 (partner c)) 0 0)
def toksP (c : Dev nD) : sProp 𝕄 :=
  iprop(dutyTok ER (cell 7 c) 0 0 ∗ dutyTok ER (cell 9 (partner c)) 0 0 ∗ dutyTok ER (cell 8 c) 0 0 ∗ dutyTok ER (cell 10 (partner c)) 0 0)
/-- The credits of the waits for the partner's copies. -/
def credsP (c : Dev nD) : sProp 𝕄 :=
  iprop(cred (tallyAt (cell 6 c) 0 NQ) ∗ cred (tallyAt (cell 9 c) 0 NA) ∗ cred (tallyAt (cell 10 c) 0 NL))
/-- The places at the cells of the partner exchange. -/
def standsP (c : Dev nD) : sProp 𝕄 := iprop(stand 6 c 0 ∗ stand 7 c 0 ∗ stand 8 c 0 ∗ stand 9 c 0 ∗ stand 10 c 0)
/-- The barriers a device signals on entry are at their first round. -/
def bars (c : Dev nD) : sProp 𝕄 := iprop(reached ER (cell 0 (left c)) 0 ∗ reached ER (cell 0 (right c)) 0 ∗ reached ER (cell 0 (partner c)) 0)
/-- The partner's landing buffers of the partial sums. -/
def landP (c : Dev nD) : sProp 𝕄 :=
  iprop(((∃ f, holds axM (partner c) f) ∗ (∃ f, holds lxM (partner c) f)) ∗ reached ER (cell 9 (partner c)) 0 ∗ reached ER (cell 10 (partner c)) 0)

/-- The staged inputs. -/
def staged (c : Dev nD) (x : Vec F S2x256x768 .f32) (wq wk wv : Vec F S768x256 .f32) (wo : Vec F S256x768 .f32) : sProp 𝕄 :=
  iprop(holds sxM c x ∗ holds swqM c wq ∗ holds swkM c wk ∗ holds swvM c wv ∗ holds swoM c wo)

/-- The start of the protocol on one device. -/
def entry (c : Dev nD) : sProp 𝕄 :=
  iprop(bars c ∗ (stand 0 c 0 ∗ stand 1 c 0 ∗ stand 2 c 0 ∗ stand 3 c 0 ∗ stand 4 c 0 ∗ stand 5 c 0) ∗ standsP c
    ∗ toksE c ∗ tokFrom c 0 ∗ toksP c ∗ cred (tallyAt (cell 0 c) 0 3) ∗ credFrom c 0 ∗ credsP c ∗ owe c (due0 c))

/-- The buffers the first phase writes, at any contents. -/
def scrE (c : Dev nD) : sProp 𝕄 :=
  iprop((∃ f, holds qM c f) ∗ (∃ f, holds qpM c f) ∗ (∃ f, slot 0 c fullShare f) ∗ (∃ f, slot 1 c fullShare f)
    ∗ (∃ f, holds lM c f) ∗ (∃ f, holds accM c f) ∗ (∃ f, holds lpM c f) ∗ (∃ f, holds accpM c f) ∗ (∃ f, holds axM c f) ∗ (∃ f, holds lxM c f))

/-- What the first phase leaves. -/
def ready (c : Dev nD) : sProp 𝕄 :=
  iprop(ringAt (vals I) c 0 ∗ stand 5 c 1 ∗ standsP c ∗ toksP c ∗ credsP c ∗ landP c
    ∗ holds qM c (vQ I c) ∗ holds lM c k0_pay90 ∗ holds accM c k0_pay92 ∗ holds lpM c k0_pay90 ∗ holds accpM c k0_pay92)

/-- The entry barrier: three units, the neighbours' slot and the partner's landing buffers with them. -/
theorem wp_wait_entry (X : Vals F) (c : Dev nD) {w : TpuEff nD τ sig (Elt F) Λ₀ (c : Thread nD τ).2 PUnit} {sm : SemLoc sig} {n : ℕ} (hsm : sm = csem 0)
    (hw : ∀ Q : PUnit → sProp 𝕄, wpE (defs₀ (F := F)) 𝒱₀ (c : Thread nD τ) none Set.univ w Q = waitSpec (c : Thread nD τ) Set.univ sm n Q)
    (hn : n = 3) (O : CellTallies nD τ sig ℕ) (hO : Above 1 O) {α : Type} {Q : α → sProp 𝕄} (k : PUnit → Prog (TpuEff nD τ sig (Elt F) Λ₀ (c : Thread nD τ).2) α) :
    iprop(records X K ∗ levAts L lv ∗ cred (tallyAt (cell 0 c) 0 3) ∗ owe c O ∗ stand 0 c 0)
      ⊢ iprop(((owe c O ∗ stand 0 c 1 ∗ ringPay c 0 ∗ partnerPay c) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm hn
  unfold owe stand
  iintro ⟨#HI, #Hlev, Hc, ⟨%W, HO⟩, Hat, -⟩ Hk
  iapply (Rounds.wp_wait_rest_token 𝒱₀ ER (sched X) (c : Thread nD τ) none (κ := K (c, 0)) hw (Set.mem_univ _) 0 (O := O) (W := W)
      (R := 0) (m := 0) (T := ∅) (by rw [Nat.zero_add]; exact (expect_bar0 X c).symm)) $$ [Hc HO Hat]
  · isplitr; · iapply (inv_at X K c 0); iexact HI
    isplitl [Hc]; · iexact Hc
    isplitl [HO]; · iexact HO
    isplitr
    · iapply (mayWait (F := F) (by omega : 0 < 16) (by rw [lv_cell]; exact hO)); iexact Hlev
    iexact Hat
  iintro ⟨HO, Hat, Hr, Hpay⟩
  ihave Hp := (Entails.of_eq (rest_bar0 X c)) $$ Hpay
  icases Hp with ⟨-, Hp, Hp'⟩
  iapply Hk
  isplitl [HO]; · iexists _; iexact HO
  isplitl [Hat Hr]
  · isplitl [Hat] <;> iassumption
  isplitl [Hp]; · iexact Hp
  iexact Hp'

theorem sl_window (c : Dev nD) (s : ℕ) (hs : s < 2) (q : PosShare TreeShare) (f : Vec F S2x2x2x256x256 .bf16) :
    (slot s c q f : sProp 𝕄) = (commM.view.loc (c : Thread nD τ) ↦[commM.view.setOn (rectS s hs).set]{q} f) := by
  unfold slot; rw [rectS_set]

/-- Slot 0 held as a window, at contents agreeing with `g` on it. -/
theorem slot_to (c : Dev nD) {f g : Vec F S2x2x2x256x256 .bf16} (h : ∀ i ∈ slotSet 0, f i = g i) :
    (commM.view.loc (c : Thread nD τ) ↦[commM.view.setOn (rectS 0 (by decide)).set]{fullShare} f : sProp 𝕄) ⊢ slot 0 c fullShare g := by
  rw [rectS_set]; exact Entails.of_eq (pointsTo_congr h)

set_option maxHeartbeats 16000000 in
theorem start (c : Dev nD) (k : Dev nD → BitVec 32 → BitVec 32 → BitVec 32 → Sems sig S_ → BitVec 32 → Prog (TpuEff nD τ sig (Elt F) Λ₀ .tc) PUnit)
    (R : sProp 𝕄) (Q : PUnit → sProp 𝕄)
    (hk : ∀ v5 v7 v9 w, iprop(records (vals I) K ∗ levAts L lv ∗ ready I c ∗ staged c (I c).x (I c).wq (I c).wk (I c).wv (I c).wo ∗ R)
      ⊢ wp frame (wpE (defs₀ (F := F)) 𝒱₀ (c : Thread nD τ) none) Set.univ (k c v5 v7 v9 (SemArray.scalar (sig.barrier 0 rfl)) w) Q) :
    iprop(records (vals I) K ∗ levAts L lv ∗ entry c ∗ scrE c ∗ staged c (I c).x (I c).wq (I c).wk (I c).wv (I c).wo ∗ R)
      ⊢ wp frame (wpE (defs₀ (F := F)) 𝒱₀ (c : Thread nD τ) none) Set.univ (first k) Q := by
  have er0 : recvIx 0 = 4 := rfl
  unfold first phase1
  rw [k0_part14_eq_skeleton]
  unfold k0_part14_skel
  simp (config := { proj := false }) only [semSignalWord, semWaitWord, Prog.lift, Prog.bind_op, Prog.bind_ret, Prog.pure_eq_ret, wp_deviceId]
  unfold entry bars standsP toksE scrE staged stand
  iintro ⟨#HI, #Hlev, ⟨⟨#HbL, #HbR, #HbP⟩, ⟨Hs0, ⟨Ha1, #Hr1⟩, ⟨Ha2, #Hr2⟩, ⟨Ha3, #Hr3⟩, ⟨Ha4, #Hr4⟩, ⟨Ha5, #Hr5⟩⟩, ⟨⟨Ha6, #Hr6⟩, H7, H8, ⟨Ha9, #Hr9⟩, ⟨Ha10, #Hr10⟩⟩,
    ⟨HtL, HtR, HtP, Ht5, Ht6⟩, Htf, HtP', Hc0, Hcf, HcP, HO⟩,
    ⟨⟨%q0, Hq⟩, Hqp, ⟨%s0, Hsl0⟩, Hsl1, ⟨%l0, Hl⟩, ⟨%a0, Ha⟩, ⟨%lp0, Hlp⟩, ⟨%ap0, Hap⟩, Hax, Hlx⟩, ⟨Hx, Hwq, Hwk, Hwv, Hwo⟩, HR⟩
  unfold due0
  iapply (wp_signal_bar (vals I) K c _ (left c) (dev1_eq c) rfl (r := 0) (d := 1) (by rw [duts_bar0]; exact Finset.mem_univ _) (due1 c)) $$ [HO HtL Hsl1]
  · isplitr; · iexact HI
    isplitl [HO]; · iexact HO
    isplitl [HtL]; · iexact HtL
    isplitl [Hsl1]
    · rw [show (barPay (left c) 0 1 : sProp 𝕄) = ringPay (left c) 0 from if_pos rfl]
      unfold ringPay
      rw [if_pos (by decide), right_left]
      isplitl [Hsl1]; · iexact Hsl1
      iexact Hr4
    iexact HbL
  iintro HO
  unfold due1
  iapply (wp_signal_bar (vals I) K c _ (right c) (dev2_eq c) rfl (r := 0) (d := 0) (by rw [duts_bar0]; exact Finset.mem_univ _) (due2 c)) $$ [HO HtR]
  · isplitr; · iexact HI
    isplitl [HO]; · iexact HO
    isplitl [HtR]; · iexact HtR
    isplitr
    · rw [show (barPay (right c) 0 0 : sProp 𝕄) = iprop(emp) from rfl]; iempintro
    iexact HbR
  iintro HO
  unfold due2
  iapply (wp_signal_bar (vals I) K c _ (partner c) (dev3_eq c) rfl (r := 0) (d := 2) (by rw [duts_bar0]; exact Finset.mem_univ _) (dueQ c)) $$ [HO HtP Hqp Hax Hlx]
  · isplitr; · iexact HI
    isplitl [HO]; · iexact HO
    isplitl [HtP]; · iexact HtP
    isplitl [Hqp Hax Hlx]
    · rw [show (barPay (partner c) 0 2 : sProp 𝕄) = partnerPay (partner c) from rfl]
      unfold partnerPay
      rw [partner_partner]
      isplitl [Hqp Hax Hlx]
      · isplitl [Hqp]; · iexact Hqp
        isplitl [Hax]; · iexact Hax
        iexact Hlx
      isplitr; · iexact Hr6
      isplitr; · iexact Hr9
      iexact Hr10
    iexact HbP
  iintro HO
  iapply (wp_wait_entry K (vals I) c rfl (fun Q => wpE_semWait_eq ..) rfl (dueQ c) (above_q c)) $$ [Hc0 HO Hs0]
  · isplitr; · iexact HI
    isplitr; · iexact Hlev
    isplitl [Hc0]; · iexact Hc0
    isplitl [HO]; · iexact HO
    unfold stand; iexact Hs0
  iintro ⟨HO, Hs0, HrP, HpP⟩
  unfold partnerPay
  icases HpP with ⟨⟨Hqp, Hax, Hlx⟩, #HrP6, #HrP9, #HrP10⟩
  ihave Hw := (Entails.of_eq (sl_window c 0 (by decide) fullShare s0)) $$ Hsl0
  sl_exec
  ihave Hq := (holds_to qM c (g := vQ I c) ?_) $$ Hq
  · exact two_q q0 (qT c (I c)) (by rfl) (by rfl)
  iapply (wp_send_partner (vals I) K c _ (dev4_eq c) qM qpM 5 6 (by rfl) (by rfl) (vQ I c) (vQ I c) (by decide) (by decide) rfl rfl
    (by exact BI.Entails.refl _) (by show _ ⊢ holds qpM (partner c) (vQ I (partner (partner c))); rw [partner_partner])
    (fun fd => by exact View.write_whole_univ ..) (dueLoop c 0)) $$ [Hq Hqp HO Ht5 Ht6]
  · isplitr; · iexact HI
    isplitl [Hq]; · iexact Hq
    isplitl [Hqp]; · iexact Hqp
    isplitl [HO]; · unfold dueQ; iexact HO
    isplitl [Ht5]; · iexact Ht5
    isplitr; · iexact Hr5
    isplitl [Ht6]; · iexact Ht6
    iexact HrP6
  iintro ⟨HcS, HO⟩
  sl_exec
  iapply (wp_wait_cell (vals I) K c 5 (by rfl) (fun Q => wpE_waitDma2_eq ..) (r := 0) (d := 0) (by decide) (by rfl) 0 (dueLoop c 0) (by decide)
    ((above_loop c (by decide)).mono (by decide))) $$ [HcS HO Ha5]
  · isplitr; · iexact HI
    isplitr; · iexact Hlev
    isplitl [HcS]; · iexact HcS
    isplitl [HO]; · iexact HO
    unfold stand
    isplitl [Ha5]; · iexact Ha5
    iexact Hr5
  iintro ⟨HO, Hs5, Hq⟩
  iapply (Entails.of_eq (wp_ret ..).symm)
  imodintro
  iapply (hk _ _ _ _)
  isplitr; · iexact HI
  isplitr; · iexact Hlev
  ihave Hl := (holds_to lM c (g := k0_pay90) ?_) $$ Hl
  · exact whole_l _ _
  ihave Ha := (holds_to accM c (g := k0_pay92) ?_) $$ Ha
  · exact whole_acc _ _
  ihave Hlp := (holds_to lpM c (g := k0_pay90) ?_) $$ Hlp
  · exact whole_lp _ _
  ihave Hap := (holds_to accpM c (g := k0_pay92) ?_) $$ Hap
  · exact whole_accp _ _
  ihave Hsl := (slot_to c (g := bothSlots (vKV I c)) ?_) $$ Hw
  · exact fun i hi => four_kv s0 (kvT c (I c)) (by rfl) (by rfl) (by rfl) (by rfl) hi
  isplitl [Hsl HrP Ha1 Ha2 Ha3 Ha4 Hs0 Hs5 Htf HtP' Hcf HcP H7 H8 Ha6 Ha9 Ha10 HO Hax Hlx Hq Hl Ha Hlp Hap]
  · unfold ready
    isplitl [Hsl HrP Ha1 Ha2 Ha3 Ha4 Hs0 Htf Hcf HO]
    · unfold ringAt spare
      rw [origin_zero, if_pos (by decide)]
      isplitl [Hsl]; · iexact Hsl
      isplitl [HrP]; · iexact HrP
      isplitr; · iempintro
      isplitl [Ha1 Ha2 Ha3 Ha4 Hs0]
      · unfold posAt
        isplitl [Ha1]
        · unfold stand
          isplitl [Ha1]; · iexact Ha1
          iexact Hr1
        isplitl [Ha2]
        · unfold stand
          isplitl [Ha2]; · iexact Ha2
          iexact Hr2
        isplitl [Ha4]
        · unfold stand
          isplitl [Ha4]; · iexact Ha4
          iexact Hr4
        isplitl [Ha3]
        · unfold stand
          isplitl [Ha3]; · iexact Ha3
          iexact Hr3
        iexact Hs0
      isplitl [Htf]; · iexact Htf
      isplitl [Hcf]; · iexact Hcf
      iexact HO
    isplitl [Hs5]; · iexact Hs5
    isplitl [Ha6 H7 H8 Ha9 Ha10]
    · unfold standsP stand
      isplitl [Ha6]
      · isplitl [Ha6]; · iexact Ha6
        iexact Hr6
      isplitl [H7]; · iexact H7
      isplitl [H8]; · iexact H8
      isplitl [Ha9]
      · isplitl [Ha9]; · iexact Ha9
        iexact Hr9
      isplitl [Ha10]; · iexact Ha10
      iexact Hr10
    isplitl [HtP']; · iexact HtP'
    isplitl [HcP]; · iexact HcP
    isplitl [Hax Hlx]
    · unfold landP
      isplitl [Hax Hlx]
      · isplitl [Hax]; · iexact Hax
        iexact Hlx
      isplitr; · iexact HrP9
      iexact HrP10
    isplitl [Hq]
    · ihave Hq := (Entails.of_eq (show pay (vals I) (5 : Fin 11).val c 0 0 = holds qM c (vQ I c) from rfl)) $$ Hq
      iexact Hq
    isplitl [Hl]; · iexact Hl
    isplitl [Ha]; · iexact Ha
    isplitl [Hlp]; · iexact Hlp
    iexact Hap
  isplitl [Hx Hwq Hwk Hwv Hwo]
  · unfold staged
    isplitl [Hx]; · iexact Hx
    isplitl [Hwq]; · iexact Hwq
    isplitl [Hwk]; · iexact Hwk
    isplitl [Hwv]; · iexact Hwv
    iexact Hwo
  iexact HR

end Cert.KernelIdeal.Run
end
-- ==== Proof.Deal.lean ====
/- The launch: the payment tokens dealt to the devices that pay, and the credits of what is owed. -/
module

public import proofs.«01_k».proof.Proof.Start

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The payment tokens -/

/-- The payments a device receives: nine on entry and in the exchange with the partner, three for each hop. -/
abbrev Jx : Type := Fin 9 ⊕ Fin 15 × Fin 3

/-- The cell, the round and the duty of a payment, and how far to the right of the payer the cell's device is. -/
def tokIx : Jx → Fin 11 × ℕ × Fin 3
  | .inl 0 => (0, 0, 0) | .inl 1 => (0, 0, 1) | .inl 2 => (0, 0, 2)
  | .inl 3 => (5, 0, 0) | .inl 4 => (6, 0, 0) | .inl 5 => (7, 0, 0) | .inl 6 => (8, 0, 0) | .inl 7 => (9, 0, 0) | .inl 8 => (10, 0, 0)
  | .inr (h, 0) => (recvIx h.val, h.val / 2, 0)
  | .inr (h, 1) => (sendIx h.val, h.val / 2, 0)
  | .inr (h, 2) => (0, h.val + 1, 1)
def tokTo : Jx → Fin 33
  | .inl 0 => 1 | .inl 1 => 31 | .inl 2 => 16
  | .inl 3 => 0 | .inl 4 => 16 | .inl 5 => 0 | .inl 6 => 0 | .inl 7 => 16 | .inl 8 => 16
  | .inr (_, 0) => 1
  | .inr (_, 1) => 0
  | .inr (_, 2) => 31

theorem tokIx_inj : ∀ j j' : Jx, tokIx j = tokIx j' → j = j' := by decide +kernel

def tokOf (p : Dev nD × Jx) : GSem nD τ sig × ℕ × Fin 3 := (cell (tokIx p.2).1 p.1, (tokIx p.2).2)
theorem tokOf_injective : Function.Injective tokOf := by
  rintro ⟨c, j⟩ ⟨c', j'⟩ h
  obtain ⟨h1, h2⟩ := cell_inj (congrArg (fun x : GSem nD τ sig × ℕ × Fin 3 => x.1) h)
  have h3 := congrArg (fun x : GSem nD τ sig × ℕ × Fin 3 => x.2) h
  subst h2
  have : j = j' := tokIx_inj j j' (Prod.ext h1 h3)
  subst this; rfl

/-- The payer of payment `j` of device `c`, turned round: who is paid by `c`. -/
def payee : Dev nD × Jx ≃ Dev nD × Jx where
  toFun p := (shift (tokTo p.2).val p.1, p.2)
  invFun p := (shift (32 - (tokTo p.2).val) p.1, p.2)
  left_inv p := Prod.ext ((shift_shift _ _ _).trans (shift_of_mod (show ((tokTo p.2).val + (32 - (tokTo p.2).val)) % 32 = 0 by have := (tokTo p.2).isLt; omega) _)) rfl
  right_inv p := Prod.ext ((shift_shift _ _ _).trans (shift_of_mod (show ((32 - (tokTo p.2).val) + (tokTo p.2).val) % 32 = 0 by have := (tokTo p.2).isLt; omega) _)) rfl

/-- The tokens of the payments device `c` receives, and of those it makes. -/
def tokAt (p : Dev nD × Jx) : sProp 𝕄 := dutyTok ER (tokOf p).1 (tokOf p).2.1 (tokOf p).2.2
def toks (c : Dev nD) : sProp 𝕄 := bigSep Finset.univ fun j : Jx => tokAt (c, j)
def payToks (c : Dev nD) : sProp 𝕄 := bigSep Finset.univ fun j : Jx => tokAt (payee (c, j))

theorem toks_around : (bigSep Finset.univ fun c : Dev nD => (toks c : sProp 𝕄)) = bigSep Finset.univ fun c : Dev nD => payToks c := by
  unfold toks payToks
  rw [← bigSep_univ_prod (fun p : Dev nD × Jx => (tokAt p : sProp 𝕄)), bigSep_univ_equiv payee, bigSep_univ_prod]

theorem bigSep_fin15 (Φ : ℕ → sProp 𝕄) : (bigSep Finset.univ fun h : Fin 15 => Φ h.val) = bigSep (Finset.Ico 0 15) Φ := by
  rw [show (Finset.Ico 0 15 : Finset ℕ) = Finset.univ.map (Fin.valEmbedding : Fin 15 ↪ ℕ) from by decide, bigSep_map]
  rfl

theorem payToks_eq (c : Dev nD) : (payToks c : sProp 𝕄) ⊢ iprop(toksE c ∗ tokFrom c 0 ∗ toksP c) := by
  have h3 : (bigSep Finset.univ fun p : Fin 15 × Fin 3 => (tokAt (payee (c, .inr p)) : sProp 𝕄)) = tokFrom c 0 := by
    rw [bigSep_univ_prod]
    unfold tokFrom
    rw [← bigSep_fin15]
    refine bigSep_congr fun h _ => ?_
    rw [bigSep_univ_eq_bigSepL [0, 1, 2] (by decide) (by decide)]
    show iprop(tokAt (payee (c, .inr (h, 0))) ∗ tokAt (payee (c, .inr (h, 1))) ∗ tokAt (payee (c, .inr (h, 2)))) = _
    refine Eq.trans (b := iprop(dutyTok ER (cell (recvIx h.val) (right c)) (h.val / 2) 0 ∗ dutyTok ER (cell (sendIx h.val) (shift 0 c)) (h.val / 2) 0
      ∗ dutyTok ER (cell 0 (left c)) (h.val + 1) 1)) rfl ?_
    rw [show shift 0 c = c from shift_of_mod rfl c]
  unfold payToks
  rw [BI.bigSep_univ_sum, h3, bigSep_univ_eq_bigSepL [0, 1, 2, 3, 4, 5, 6, 7, 8] (by decide) (by decide)]
  have h9 : (bigSepL [0, 1, 2, 3, 4, 5, 6, 7, 8] fun j : Fin 9 => (tokAt (payee (c, .inl j)) : sProp 𝕄))
      = iprop(dutyTok ER (cell 0 (right c)) 0 0 ∗ dutyTok ER (cell 0 (left c)) 0 1 ∗ dutyTok ER (cell 0 (partner c)) 0 2
        ∗ dutyTok ER (cell 5 (shift 0 c)) 0 0 ∗ dutyTok ER (cell 6 (partner c)) 0 0 ∗ dutyTok ER (cell 7 (shift 0 c)) 0 0
        ∗ dutyTok ER (cell 8 (shift 0 c)) 0 0 ∗ dutyTok ER (cell 9 (partner c)) 0 0 ∗ dutyTok ER (cell 10 (partner c)) 0 0) := rfl
  rw [h9, show shift 0 c = c from shift_of_mod rfl c]
  unfold toksE toksP
  show iprop((dutyTok ER (cell 0 (right c)) 0 0 ∗ dutyTok ER (cell 0 (left c)) 0 1 ∗ dutyTok ER (cell 0 (partner c)) 0 2
        ∗ dutyTok ER (cell 5 c) 0 0 ∗ dutyTok ER (cell 6 (partner c)) 0 0 ∗ dutyTok ER (cell 7 c) 0 0
        ∗ dutyTok ER (cell 8 c) 0 0 ∗ dutyTok ER (cell 9 (partner c)) 0 0 ∗ dutyTok ER (cell 10 (partner c)) 0 0) ∗ tokFrom c 0) ⊢ _
  iintro ⟨⟨H0, H1, H2, H3, H4, H5, H6, H7, H8⟩, HR⟩
  isplitl [H0 H1 H2 H3 H4]
  · isplitl [H1]; · iexact H1
    isplitl [H0]; · iexact H0
    isplitl [H2]; · iexact H2
    isplitl [H3]; · iexact H3
    iexact H4
  isplitl [HR]; · iexact HR
  isplitl [H5]; · iexact H5
  isplitl [H7]; · iexact H7
  isplitl [H6]; · iexact H6
  iexact H8

/-! ## The launch credit -/

theorem back (k : ℕ) (hk : k ≤ 32) (c : Dev nD) : shift k (shift (32 - k) c) = c :=
  (shift_shift _ _ _).trans (shift_of_mod (by omega) _)
theorem forth (k : ℕ) (hk : k ≤ 32) (c : Dev nD) : shift (32 - k) (shift k c) = c :=
  (shift_shift _ _ _).trans (shift_of_mod (by omega) _)

theorem launch_one (i : Fin 11) (k : ℕ) (hk : k ≤ 32) (ι n : ℕ) (c : Dev nD) :
    (Pipeline.launchCred (fun d => tallyAt (cell i (shift k d)) ι n) c : sProp 𝕄) ⊢ cred (tallyAt (cell i c) ι n) :=
  Pipeline.launchCred_tallyAt (csem i) (shift k) (shift (32 - k)) (back k hk) (forth k hk) ι n c

theorem launch_hops (c : Dev nD) : (Pipeline.launchCred (fun d => dueFrom d 0) c : sProp 𝕄) ⊢ credFrom c 0 := by
  unfold dueFrom credFrom
  rw [Pipeline.launchCred_sum (Finset.Ico 0 15) (fun h d => dueHop d h) c]
  refine bigSep_mono fun h _ => ?_
  unfold dueHop
  rw [Pipeline.launchCred_add]
  show iprop(Pipeline.launchCred _ c ∗ Pipeline.launchCred _ c) ⊢ iprop(cred _ ∗ cred _)
  iintro ⟨H1, H2⟩
  isplitl [H2]
  · iapply (launch_one (recvIx h) 1 (by omega) h NB c); iexact H2
  · iapply (launch_one 0 31 (by omega) (h + 1) 1 c); iexact H1

theorem creds (c : Dev nD) : (Pipeline.launchCred due0 c : sProp 𝕄) ⊢ iprop(cred (tallyAt (cell 0 c) 0 3) ∗ credFrom c 0 ∗ credsP c) := by
  rw [show (due0 : Dev nD → CellTallies nD τ sig ℕ) = fun d => ((((((tallyAt (cell 10 (partner d)) 0 NL + tallyAt (cell 9 (partner d)) 0 NA) + dueFrom d 0) + tallyAt (cell 6 (partner d)) 0 NQ)
      + tallyAt (cell 0 (partner d)) 0 1) + tallyAt (cell 0 (right d)) 0 1) + tallyAt (cell 0 (left d)) 0 1) from rfl]
  rw [Pipeline.launchCred_add, Pipeline.launchCred_add, Pipeline.launchCred_add, Pipeline.launchCred_add, Pipeline.launchCred_add, Pipeline.launchCred_add]
  iintro ⟨⟨⟨⟨⟨⟨HLX, HAX⟩, HF⟩, HQ⟩, HP⟩, HR⟩, HL⟩
  ihave HLX := (launch_one (F := F) 10 16 (by omega) 0 NL c) $$ HLX
  ihave HAX := (launch_one (F := F) 9 16 (by omega) 0 NA c) $$ HAX
  ihave HQ := (launch_one (F := F) 6 16 (by omega) 0 NQ c) $$ HQ
  ihave HP := (launch_one (F := F) 0 16 (by omega) 0 1 c) $$ HP
  ihave HR := (launch_one (F := F) 0 1 (by omega) 0 1 c) $$ HR
  ihave HL := (launch_one (F := F) 0 31 (by omega) 0 1 c) $$ HL
  ihave HF := (launch_hops (F := F) c) $$ HF
  isplitl [HP HR HL]
  · iapply (Entails.of_eq (congrArg cred ((tallyAt_add (cell 0 c) 0 1 2).trans rfl)))
    iapply (cred_add _ _).2
    isplitl [HP]; · iexact HP
    iapply (Entails.of_eq (congrArg cred (tallyAt_add (cell 0 c) 0 1 1)))
    iapply (cred_add _ _).2
    isplitl [HR]; · iexact HR
    iexact HL
  isplitl [HF]; · iexact HF
  unfold credsP
  isplitl [HQ]; · iexact HQ
  isplitl [HAX]; · iexact HAX
  iexact HLX

end Cert.KernelIdeal.Run
end
-- ==== Proof.Trip.lean ====
/- One trip of the ring loop: the block in the current slot is sent to the right neighbour while it is used, the sums grow by
   the block's share, the next block arrives in the other slot, and the slot sent is handed to the left neighbour. -/
module

public import proofs.«01_k».proof.Proof.Hop

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Vals F) (K : Dev nD × Fin 11 → ℕ)

abbrev body (c : Dev nD) (v5 v7 v9 w : BitVec 32) :=
  k0_t1_body (F := F) (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) cc0_scratch11 cc0_scratch12 cc0_scratch13 cc0_scratch14 cc0_scratch15
    c v5 v7 v9 (SemArray.scalar (sig.barrier 0 rfl)) w

/-- Contents may be restated. -/
theorem holds_eq {s : Shape} {e : EltTy} (m : Memref sig .tc .vmem s e) (c : Dev nD) {f g : Buf (Elt F) (m.view.loc (c : Thread nD τ))} (h : f = g) :
    (holds m c f : sProp 𝕄) ⊢ holds m c g := Entails.of_eq (congrArg _ h)

/-- The tiles of batch 0 and batch 1. -/
def two (a b : Vec F S1x1x1x256x256 .bf16) (i : Fin 2) : Vec F S1x1x1x256x256 .bf16 := match i with | 0 => a | 1 => b

/-- The tile at offset `off` of the ring buffer when it shows `B`. -/
def tileAt (B : Vec F S2x2x256x256 .bf16) (off : Fin 5 → ℕ) (h : ∀ a, off a + S1x1x1x256x256.size a ≤ S2x2x2x256x256.size a) : Vec F S1x1x1x256x256 .bf16 :=
  commM.view.readAt (Elt F) (Rect.unit (s := S2x2x2x256x256) off S1x1x1x256x256.size h).toLoadRect (bothSlots B)

theorem two_keys (B : Vec F S2x2x256x256 .bf16) {o o' : Fin 5 → ℕ} {s : ℕ} (h h') (e : o = ![s, 0, 0, 0, 0]) (e' : o' = ![s, 0, 1, 0, 0]) :
    two (tileAt B o h) (tileAt B o' h') = kts B := by
  funext i
  fin_cases i
  · exact tile_read (k := 0) (b := 0) h e B
  · exact tile_read (k := 0) (b := 1) h' e' B
theorem two_vals (B : Vec F S2x2x256x256 .bf16) {o o' : Fin 5 → ℕ} {s : ℕ} (h h') (e : o = ![s, 1, 0, 0, 0]) (e' : o' = ![s, 1, 1, 0, 0]) :
    two (tileAt B o h) (tileAt B o' h') = vts B := by
  funext i
  fin_cases i
  · exact tile_read (k := 1) (b := 0) h e B
  · exact tile_read (k := 1) (b := 1) h' e' B

/-- Eight stores, one a pair, make a buffer of slabs. -/
theorem eight_l (f : Vec F S8x256x1 .f32) {w : Fin 8 → Vec F S1x256x1 .f32} {f0 f1 f2 f3 f4 f5 f6 f7 : Vec F S1x256x1 .f32}
    (h0 : f0 = w 0) (h1 : f1 = w 1) (h2 : f2 = w 2) (h3 : f3 = w 3) (h4 : f4 = w 4) (h5 : f5 = w 5) (h6 : f6 = w 6) (h7 : f7 = w 7) :
    lM.view.writes (Elt F) f [⟨Rect.unit (s := S8x256x1) ![7, 0, 0] S1x256x1.size inb_S8x256x1_S1x256x1_7_0_0, f7⟩, ⟨Rect.unit (s := S8x256x1) ![6, 0, 0] S1x256x1.size inb_S8x256x1_S1x256x1_6_0_0, f6⟩, ⟨Rect.unit (s := S8x256x1) ![5, 0, 0] S1x256x1.size inb_S8x256x1_S1x256x1_5_0_0, f5⟩, ⟨Rect.unit (s := S8x256x1) ![4, 0, 0] S1x256x1.size inb_S8x256x1_S1x256x1_4_0_0, f4⟩, ⟨Rect.unit (s := S8x256x1) ![3, 0, 0] S1x256x1.size inb_S8x256x1_S1x256x1_3_0_0, f3⟩, ⟨Rect.unit (s := S8x256x1) ![2, 0, 0] S1x256x1.size inb_S8x256x1_S1x256x1_2_0_0, f2⟩, ⟨Rect.unit (s := S8x256x1) ![1, 0, 0] S1x256x1.size inb_S8x256x1_S1x256x1_1_0_0, f1⟩, ⟨Rect.unit (s := S8x256x1) ![0, 0, 0] S1x256x1.size inb_S8x256x1_S1x256x1_0_0_0, f0⟩] = slabL w := by
  subst h0 h1 h2 h3 h4 h5 h6 h7
  exact writes_l f w
theorem eight_lp (f : Vec F S8x256x1 .f32) {w : Fin 8 → Vec F S1x256x1 .f32} {f0 f1 f2 f3 f4 f5 f6 f7 : Vec F S1x256x1 .f32}
    (h0 : f0 = w 0) (h1 : f1 = w 1) (h2 : f2 = w 2) (h3 : f3 = w 3) (h4 : f4 = w 4) (h5 : f5 = w 5) (h6 : f6 = w 6) (h7 : f7 = w 7) :
    lpM.view.writes (Elt F) f [⟨Rect.unit (s := S8x256x1) ![7, 0, 0] S1x256x1.size inb_S8x256x1_S1x256x1_7_0_0, f7⟩, ⟨Rect.unit (s := S8x256x1) ![6, 0, 0] S1x256x1.size inb_S8x256x1_S1x256x1_6_0_0, f6⟩, ⟨Rect.unit (s := S8x256x1) ![5, 0, 0] S1x256x1.size inb_S8x256x1_S1x256x1_5_0_0, f5⟩, ⟨Rect.unit (s := S8x256x1) ![4, 0, 0] S1x256x1.size inb_S8x256x1_S1x256x1_4_0_0, f4⟩, ⟨Rect.unit (s := S8x256x1) ![3, 0, 0] S1x256x1.size inb_S8x256x1_S1x256x1_3_0_0, f3⟩, ⟨Rect.unit (s := S8x256x1) ![2, 0, 0] S1x256x1.size inb_S8x256x1_S1x256x1_2_0_0, f2⟩, ⟨Rect.unit (s := S8x256x1) ![1, 0, 0] S1x256x1.size inb_S8x256x1_S1x256x1_1_0_0, f1⟩, ⟨Rect.unit (s := S8x256x1) ![0, 0, 0] S1x256x1.size inb_S8x256x1_S1x256x1_0_0_0, f0⟩] = slabL w := by
  subst h0 h1 h2 h3 h4 h5 h6 h7
  exact writes_lp f w
theorem eight_acc (f : Vec F S8x256x64 .f32) {w : Fin 8 → Vec F S1x256x64 .f32} {f0 f1 f2 f3 f4 f5 f6 f7 : Vec F S1x256x64 .f32}
    (h0 : f0 = w 0) (h1 : f1 = w 1) (h2 : f2 = w 2) (h3 : f3 = w 3) (h4 : f4 = w 4) (h5 : f5 = w 5) (h6 : f6 = w 6) (h7 : f7 = w 7) :
    accM.view.writes (Elt F) f [⟨Rect.unit (s := S8x256x64) ![7, 0, 0] S1x256x64.size inb_S8x256x64_S1x256x64_7_0_0, f7⟩, ⟨Rect.unit (s := S8x256x64) ![6, 0, 0] S1x256x64.size inb_S8x256x64_S1x256x64_6_0_0, f6⟩, ⟨Rect.unit (s := S8x256x64) ![5, 0, 0] S1x256x64.size inb_S8x256x64_S1x256x64_5_0_0, f5⟩, ⟨Rect.unit (s := S8x256x64) ![4, 0, 0] S1x256x64.size inb_S8x256x64_S1x256x64_4_0_0, f4⟩, ⟨Rect.unit (s := S8x256x64) ![3, 0, 0] S1x256x64.size inb_S8x256x64_S1x256x64_3_0_0, f3⟩, ⟨Rect.unit (s := S8x256x64) ![2, 0, 0] S1x256x64.size inb_S8x256x64_S1x256x64_2_0_0, f2⟩, ⟨Rect.unit (s := S8x256x64) ![1, 0, 0] S1x256x64.size inb_S8x256x64_S1x256x64_1_0_0, f1⟩, ⟨Rect.unit (s := S8x256x64) ![0, 0, 0] S1x256x64.size inb_S8x256x64_S1x256x64_0_0_0, f0⟩] = slabA w := by
  subst h0 h1 h2 h3 h4 h5 h6 h7
  exact writes_acc f w
theorem eight_accp (f : Vec F S8x256x64 .f32) {w : Fin 8 → Vec F S1x256x64 .f32} {f0 f1 f2 f3 f4 f5 f6 f7 : Vec F S1x256x64 .f32}
    (h0 : f0 = w 0) (h1 : f1 = w 1) (h2 : f2 = w 2) (h3 : f3 = w 3) (h4 : f4 = w 4) (h5 : f5 = w 5) (h6 : f6 = w 6) (h7 : f7 = w 7) :
    accpM.view.writes (Elt F) f [⟨Rect.unit (s := S8x256x64) ![7, 0, 0] S1x256x64.size inb_S8x256x64_S1x256x64_7_0_0, f7⟩, ⟨Rect.unit (s := S8x256x64) ![6, 0, 0] S1x256x64.size inb_S8x256x64_S1x256x64_6_0_0, f6⟩, ⟨Rect.unit (s := S8x256x64) ![5, 0, 0] S1x256x64.size inb_S8x256x64_S1x256x64_5_0_0, f5⟩, ⟨Rect.unit (s := S8x256x64) ![4, 0, 0] S1x256x64.size inb_S8x256x64_S1x256x64_4_0_0, f4⟩, ⟨Rect.unit (s := S8x256x64) ![3, 0, 0] S1x256x64.size inb_S8x256x64_S1x256x64_3_0_0, f3⟩, ⟨Rect.unit (s := S8x256x64) ![2, 0, 0] S1x256x64.size inb_S8x256x64_S1x256x64_2_0_0, f2⟩, ⟨Rect.unit (s := S8x256x64) ![1, 0, 0] S1x256x64.size inb_S8x256x64_S1x256x64_1_0_0, f1⟩, ⟨Rect.unit (s := S8x256x64) ![0, 0, 0] S1x256x64.size inb_S8x256x64_S1x256x64_0_0_0, f0⟩] = slabA w := by
  subst h0 h1 h2 h3 h4 h5 h6 h7
  exact writes_accp f w

set_option maxHeartbeats 16000000 in
theorem trip (c : Dev nD) (v5 v7 v9 w : BitVec 32) (t : Fin k0_t1_loop.trips) (q qp : Vec F S2x256x256 .bf16) (l lp : Vec F S8x256x1 .f32) (a ap : Vec F S8x256x64 .f32)
    (Q : Unit → sProp 𝕄) :
    iprop(records X K ∗ levAts L lv ∗ ringAt X c t.val ∗ sums c q qp l lp a ap
        ∗ ((ringAt X c (t.val + 1)
            ∗ sums c q qp (stepL (kts (X.KV (origin t.val c))) (qOf q) l) (stepL (kts (X.KV (origin t.val c))) (qOf qp) lp)
                (stepA (kts (X.KV (origin t.val c))) (vts (X.KV (origin t.val c))) (qOf q) a) (stepA (kts (X.KV (origin t.val c))) (vts (X.KV (origin t.val c))) (qOf qp) ap)) -∗ Q ()))
      ⊢ wp frame (wpE (defs₀ (F := F)) 𝒱₀ (c : Thread nD τ) none) Set.univ (body c v5 v7 v9 w t ()) Q := by
  have hk : t.val < 15 := t.isLt.trans_eq trips_eq
  have hset : (slotM (k0_off4 t) (k0_off4_inb t)).view.set = slotSet (t.val % 2) := slotM_set (by omega) _ (k0_off4_eq t)
  have e5 : (commM.access (Rect.unit (s := S2x2x2x256x256) (k0_off5 t) S1x1x1x256x256.size (k0_off5_inb t)) : View sig .tc .vmem _ _).set ⊆ (slotM (k0_off4 t) (k0_off4_inb t)).view.set :=
    hset ▸ tile_access (k := 0) (b := 0) _ (k0_off5_eq t)
  have e6 : (commM.access (Rect.unit (s := S2x2x2x256x256) (k0_off6 t) S1x1x1x256x256.size (k0_off6_inb t)) : View sig .tc .vmem _ _).set ⊆ (slotM (k0_off4 t) (k0_off4_inb t)).view.set :=
    hset ▸ tile_access (k := 1) (b := 0) _ (k0_off6_eq t)
  have e7 : (commM.access (Rect.unit (s := S2x2x2x256x256) (k0_off7 t) S1x1x1x256x256.size (k0_off7_inb t)) : View sig .tc .vmem _ _).set ⊆ (slotM (k0_off4 t) (k0_off4_inb t)).view.set :=
    hset ▸ tile_access (k := 0) (b := 1) _ (k0_off7_eq t)
  have e8 : (commM.access (Rect.unit (s := S2x2x2x256x256) (k0_off8 t) S1x1x1x256x256.size (k0_off8_inb t)) : View sig .tc .vmem _ _).set ⊆ (slotM (k0_off4 t) (k0_off4_inb t)).view.set :=
    hset ▸ tile_access (k := 1) (b := 1) _ (k0_off8_eq t)
  unfold body k0_t1_body
  rw [k0_part1_eq_skeleton]
  unfold k0_part1_skel
  simp (config := { proj := false }) only [semSignalWord, semWaitWord, Prog.lift, Prog.bind_op, Prog.bind_ret, Prog.pure_eq_ret]
  unfold ringAt sums posAt
  rw [tokFrom_step c hk, credFrom_step c hk, dueLoop_step c hk]
  iintro ⟨#HI, #Hlev, ⟨Hslot, HrP, Hsp, ⟨HpS, HpS', HpR, HpR', HpB⟩, ⟨⟨HtR, HtS, HtB⟩, Htoks⟩, ⟨⟨HcR, HcB⟩, Hcreds⟩, HO⟩, ⟨Hq, Hqp, Hl, Ha, Hlp, Hap⟩, Hk⟩
  iclear Hsp
  ihave Hs2 := (pointsTo_share (PosShare.mem_left_op_right fullShare)).1 $$ Hslot
  icases Hs2 with ⟨HsL, HsR⟩
  unfold stand
  icases HpS with ⟨HaS, #HrS⟩
  icases HpB with ⟨HaB, #HrB⟩
  iapply (wp_send_ring X K c _ (dev5_eq c) hk (k0_off3_inb t) (k0_off4_inb t) (k0_off3_eq t) (k0_off4_eq t) (send_sem t) (recv_sem t)
    (dueLoop c (t.val + 1) + tallyAt (cell 0 (left c)) (t.val + 1) 1)) $$ [HsL HrP HO HtS HtR]
  · isplitr; · iexact HI
    isplitl [HsL]; · iexact HsL
    isplitl [HrP]; · iexact HrP
    isplitr; · iexact HrB
    isplitl [HO]; · iexact HO
    isplitl [HtS]; · iexact HtS
    isplitr; · iexact HrS
    iexact HtR
  iintro ⟨HcS, HO⟩
  ihave Hr : ((slotM (k0_off4 t) (k0_off4_inb t)).view.loc (c : Thread nD τ) ↦[(slotM (k0_off4 t) (k0_off4_inb t)).view.set]{fullShare.right}
      bothSlots (X.KV (origin t.val c))) $$ [HsR]
  · rw [hset]; iexact HsR
  sl_exec
  have hK := two_keys (X.KV (origin t.val c)) (k0_off5_inb t) (k0_off7_inb t) (k0_off5_eq t) (k0_off7_eq t)
  have hV := two_vals (X.KV (origin t.val c)) (k0_off6_inb t) (k0_off8_inb t) (k0_off6_eq t) (k0_off8_eq t)
  rw [← hK, ← hV]
  ihave Hl := (holds_eq lM c (g := stepL (two (tileAt (X.KV (origin t.val c)) (k0_off5 t) (k0_off5_inb t)) (tileAt (X.KV (origin t.val c)) (k0_off7 t) (k0_off7_inb t))) (qOf q) l) ?_) $$ Hl
  · refine eight_l l (w := fun i => addL (hd i) ((two (tileAt (X.KV (origin t.val c)) (k0_off5 t) (k0_off5_inb t)) (tileAt (X.KV (origin t.val c)) (k0_off7 t) (k0_off7_inb t))) (bat i)) (qOf q i) fun x => l ((rectL i).idx x)) ?_ ?_ ?_ ?_ ?_ ?_ ?_ ?_ <;> rfl
  ihave Hlp := (holds_eq lpM c (g := stepL (two (tileAt (X.KV (origin t.val c)) (k0_off5 t) (k0_off5_inb t)) (tileAt (X.KV (origin t.val c)) (k0_off7 t) (k0_off7_inb t))) (qOf qp) lp) ?_) $$ Hlp
  · refine eight_lp lp (w := fun i => addL (hd i) ((two (tileAt (X.KV (origin t.val c)) (k0_off5 t) (k0_off5_inb t)) (tileAt (X.KV (origin t.val c)) (k0_off7 t) (k0_off7_inb t))) (bat i)) (qOf qp i) fun x => lp ((rectL i).idx x)) ?_ ?_ ?_ ?_ ?_ ?_ ?_ ?_ <;> rfl
  ihave Ha := (holds_eq accM c (g := stepA (two (tileAt (X.KV (origin t.val c)) (k0_off5 t) (k0_off5_inb t)) (tileAt (X.KV (origin t.val c)) (k0_off7 t) (k0_off7_inb t)))
    (two (tileAt (X.KV (origin t.val c)) (k0_off6 t) (k0_off6_inb t)) (tileAt (X.KV (origin t.val c)) (k0_off8 t) (k0_off8_inb t))) (qOf q) a) ?_) $$ Ha
  · refine eight_acc a (w := fun i => addA (hd i) ((two (tileAt (X.KV (origin t.val c)) (k0_off5 t) (k0_off5_inb t)) (tileAt (X.KV (origin t.val c)) (k0_off7 t) (k0_off7_inb t))) (bat i)) ((two (tileAt (X.KV (origin t.val c)) (k0_off6 t) (k0_off6_inb t)) (tileAt (X.KV (origin t.val c)) (k0_off8 t) (k0_off8_inb t))) (bat i)) (qOf q i) fun x => a ((rectA i).idx x)) ?_ ?_ ?_ ?_ ?_ ?_ ?_ ?_ <;> rfl
  ihave Hap := (holds_eq accpM c (g := stepA (two (tileAt (X.KV (origin t.val c)) (k0_off5 t) (k0_off5_inb t)) (tileAt (X.KV (origin t.val c)) (k0_off7 t) (k0_off7_inb t)))
    (two (tileAt (X.KV (origin t.val c)) (k0_off6 t) (k0_off6_inb t)) (tileAt (X.KV (origin t.val c)) (k0_off8 t) (k0_off8_inb t))) (qOf qp) ap) ?_) $$ Hap
  · refine eight_accp ap (w := fun i => addA (hd i) ((two (tileAt (X.KV (origin t.val c)) (k0_off5 t) (k0_off5_inb t)) (tileAt (X.KV (origin t.val c)) (k0_off7 t) (k0_off7_inb t))) (bat i)) ((two (tileAt (X.KV (origin t.val c)) (k0_off6 t) (k0_off6_inb t)) (tileAt (X.KV (origin t.val c)) (k0_off8 t) (k0_off8_inb t))) (bat i)) (qOf qp i) fun x => ap ((rectA i).idx x)) ?_ ?_ ?_ ?_ ?_ ?_ ?_ ?_ <;> rfl
  iapply (trip_end X K c _ (dev6_eq c) t (fun Q => (wpE_waitDma2_eq ..).trans (by rw [send_sem t])) (fun Q => (wpE_waitDma2_eq ..).trans (by rw [recv_sem t])) rfl
    (fun Q => wpE_semWait_eq ..) Q)
  isplitr; · iexact HI
  isplitr; · iexact Hlev
  isplitl [Hr]; · unfold slot; rw [← hset]; iexact Hr
  isplitl [HaS HpS' HpR HpR' HaB]
  · unfold posAt stand
    isplitl [HaS]
    · isplitl [HaS]; · iexact HaS
      iexact HrS
    isplitl [HpS']; · iexact HpS'
    isplitl [HpR]; · iexact HpR
    isplitl [HpR']; · iexact HpR'
    isplitl [HaB]; · iexact HaB
    iexact HrB
  isplitl [HtB]; · iexact HtB
  isplitl [Htoks]; · iexact Htoks
  isplitl [HcR HcB]
  · isplitl [HcR]; · iexact HcR
    iexact HcB
  isplitl [Hcreds]; · iexact Hcreds
  isplitl [HcS]; · iexact HcS
  isplitl [HO]; · iexact HO
  iintro Hring
  iapply Hk
  isplitl [Hring]
  · unfold ringAt posAt stand; iexact Hring
  isplitl [Hq]; · iexact Hq
  isplitl [Hqp]; · iexact Hqp
  isplitl [Hl]; · iexact Hl
  isplitl [Ha]; · iexact Ha
  isplitl [Hlp]; · iexact Hlp
  iexact Hap

end Cert.KernelIdeal.Run
end
-- ==== Proof.Middle.lean ====
/- The second phase of the body: the loop over the ring, the last block, the copies of the partial sums to the partner. -/
module

public import proofs.«01_k».proof.Proof.Start
public import proofs.«01_k».proof.Proof.Trip

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Dev nD → Ins F) (K : Dev nD × Fin 11 → ℕ)

/-- Before trip `k` of the loop. -/
def trips (c : Dev nD) (k : ℕ) (_ : Unit) : sProp 𝕄 :=
  iprop(records (vals I) K ∗ levAts L lv ∗ ringAt (vals I) c k ∗ sums c (vQ I c) (vQ I (partner c)) (sumL I c (qOf (vQ I c)) k) (sumL I c (qOf (vQ I (partner c))) k)
    (sumA I c (qOf (vQ I c)) k) (sumA I c (qOf (vQ I (partner c))) k))

/-- What the second phase leaves. -/
def sent (c : Dev nD) : sProp 𝕄 :=
  iprop((stand 5 c 1 ∗ stand 6 c 1 ∗ stand 7 c 1 ∗ stand 8 c 0 ∗ stand 9 c 0 ∗ stand 10 c 0 ∗ posAt c 15)
    ∗ ((∃ f, slot 0 c fullShare f) ∗ (∃ f, slot 1 c fullShare f) ∗ (∃ f, holds qM c f) ∗ (∃ f, holds qpM c f) ∗ (∃ f, holds accpM c f) ∗ (∃ f, holds accbM c f))
    ∗ (holds lM c (ownL I c) ∗ holds accM c (ownA I c))
    ∗ (cred (tallyAt (cell 8 c) 0 NL) ∗ cred (tallyAt (cell 9 c) 0 NA) ∗ cred (tallyAt (cell 10 c) 0 NL)) ∗ owe c 0)

theorem above_nil (b : ℕ) : Above b 0 := fun g ι hp => absurd hp (by simp)

set_option maxHeartbeats 16000000 in
theorem middle (c : Dev nD) (v5 v7 v9 w : BitVec 32) (k : BitVec 32 → Prog (TpuEff nD τ sig (Elt F) Λ₀ .tc) PUnit)
    (R : sProp 𝕄) (Q : PUnit → sProp 𝕄)
    (hk : ∀ v, iprop(records (vals I) K ∗ levAts L lv ∗ sent I c ∗ R)
      ⊢ wp frame (wpE (defs₀ (F := F)) 𝒱₀ (c : Thread nD τ) none) Set.univ (k v) Q) :
    iprop(records (vals I) K ∗ levAts L lv ∗ ready I c ∗ (∃ f, holds accbM c f) ∗ R)
      ⊢ wp frame (wpE (defs₀ (F := F)) 𝒱₀ (c : Thread nD τ) none) Set.univ (second c v5 v7 v9 (SemArray.scalar (sig.barrier 0 rfl)) w k) Q := by
  unfold second phase2
  rw [k0_part20_eq_skeleton]
  unfold k0_part20_skel
  simp (config := { proj := false }) only [semSignalWord, semWaitWord, Prog.lift, Prog.bind_op, Prog.bind_ret, Prog.pure_eq_ret]
  unfold ready standsP toksP credsP landP
  iintro ⟨#HI, #Hlev, ⟨Hring, H5, ⟨H6, H7, H8, H9, H10⟩, ⟨Ht7, Ht9, Ht8, Ht10⟩, ⟨Hc6, Hc9, Hc10⟩, ⟨⟨Hax, Hlx⟩, #HrP9, #HrP10⟩, Hq, Hl, Ha, Hlp, Hap⟩, ⟨%b0, Hb⟩, HR⟩
  ihave H7 := (Entails.of_eq (show (stand 7 c 0 : sProp 𝕄) = iprop(atPos ER (cell 7 c) 0 ∅ 0 ∗ reached ER (cell 7 c) 0) from rfl)) $$ H7
  ihave H8 := (Entails.of_eq (show (stand 8 c 0 : sProp 𝕄) = iprop(atPos ER (cell 8 c) 0 ∅ 0 ∗ reached ER (cell 8 c) 0) from rfl)) $$ H8
  icases H7 with ⟨H7, #Hr7⟩
  icases H8 with ⟨H8, #Hr8⟩
  unfold ringAt
  icases Hring with ⟨Hslot, HrP, Hsp, Hpos, Htok, Hcf, HO⟩
  iapply (wp_wait_cell (vals I) K c 6 (by rfl) (fun Q => wpE_waitDma2_eq ..) (r := 0) (d := 0) (by decide) (by rfl) 0 (dueLoop c 0) (by decide)
    ((above_loop c (by decide)).mono (by decide))) $$ [Hc6 HO H6]
  · isplitr; · iexact HI
    isplitr; · iexact Hlev
    isplitl [Hc6]; · iexact Hc6
    isplitl [HO]; · iexact HO
    iexact H6
  iintro ⟨HO, H6, Hqp⟩
  ihave Hqp := (Entails.of_eq (show pay (vals I) (6 : Fin 11).val c 0 0 = holds qpM c (vQ I (partner c)) from rfl)) $$ Hqp
  sl_rw [bind_assoc]
  sl_for (trips I K c) $$ [Hslot HrP Hsp Hpos Htok Hcf HO Hq Hqp Hl Ha Hlp Hap]
  case region =>
    intro t _
    unfold trips
    iintro ⟨#HI, #Hlev, Hring, Hsums⟩
    iapply (trip (vals I) K c v5 v7 v9 w t _ _ _ _ _ _ _)
    isplitr; · iexact HI
    isplitr; · iexact Hlev
    isplitl [Hring]; · iexact Hring
    isplitl [Hsums]; · iexact Hsums
    iintro ⟨Hring, Hsums⟩
    isplitr; · iexact HI
    isplitr; · iexact Hlev
    isplitl [Hring]; · iexact Hring
    iexact Hsums
  · unfold trips ringAt sums
    isplitr; · iexact HI
    isplitr; · iexact Hlev
    isplitl [Hslot HrP Hsp Hpos Htok Hcf HO]
    · isplitl [Hslot]; · iexact Hslot
      isplitl [HrP]; · iexact HrP
      isplitl [Hsp]; · iexact Hsp
      isplitl [Hpos]; · iexact Hpos
      isplitl [Htok]; · iexact Htok
      isplitl [Hcf]; · iexact Hcf
      iexact HO
    isplitl [Hq]; · iexact Hq
    isplitl [Hqp]; · iexact Hqp
    isplitl [Hl]; · iexact Hl
    isplitl [Ha]; · iexact Ha
    isplitl [Hlp]; · iexact Hlp
    iexact Hap
  iintro %_ Hinv
  unfold trips
  rw [show Scf.trips k0_t1_loop.lb k0_t1_loop.ub k0_t1_loop.st = 15 from trips_eq]
  icases Hinv with ⟨-, -, Hring, Hsums⟩
  unfold ringAt sums
  icases Hring with ⟨Hslot, -, Hsp, Hpos, -, -, HO⟩
  icases Hsums with ⟨Hq, Hqp, Hl, Ha, Hlp, Hap⟩
  ihave Hw := (Entails.of_eq (sl_window c 1 (by decide) fullShare (bothSlots ((vals I).KV (origin 15 c))))) $$ Hslot
  sl_exec
  have hK : (two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) = _ := two_keys ((vals I).KV (origin 15 c)) inb_S2x2x2x256x256_S1x1x1x256x256_1_0_0_0_0 inb_S2x2x2x256x256_S1x1x1x256x256_1_0_1_0_0 rfl rfl
  have hV : (two (tileAt ((vals I).KV (origin 15 c)) ![1, 1, 0, 0, 0] inb_S2x2x2x256x256_S1x1x1x256x256_1_1_0_0_0) (tileAt ((vals I).KV (origin 15 c)) ![1, 1, 1, 0, 0] inb_S2x2x2x256x256_S1x1x1x256x256_1_1_1_0_0)) = _ := two_vals ((vals I).KV (origin 15 c)) inb_S2x2x2x256x256_S1x1x1x256x256_1_1_0_0_0 inb_S2x2x2x256x256_S1x1x1x256x256_1_1_1_0_0 rfl rfl
  have hAp : ∀ f, accpM.view.writes (Elt F) f (middle.sl.Hap_8 I c) = forA I c := fun f => by
    have h : accpM.view.writes (Elt F) f (middle.sl.Hap_8 I c) = stepA (two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (two (tileAt ((vals I).KV (origin 15 c)) ![1, 1, 0, 0, 0] inb_S2x2x2x256x256_S1x1x1x256x256_1_1_0_0_0) (tileAt ((vals I).KV (origin 15 c)) ![1, 1, 1, 0, 0] inb_S2x2x2x256x256_S1x1x1x256x256_1_1_1_0_0)) (qOf (vQ I (partner c))) (sumA I c (qOf (vQ I (partner c))) 15) := by
      refine eight_accp f (w := fun i => addA (hd i) ((two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (bat i)) ((two (tileAt ((vals I).KV (origin 15 c)) ![1, 1, 0, 0, 0] inb_S2x2x2x256x256_S1x1x1x256x256_1_1_0_0_0) (tileAt ((vals I).KV (origin 15 c)) ![1, 1, 1, 0, 0] inb_S2x2x2x256x256_S1x1x1x256x256_1_1_1_0_0)) (bat i)) ((qOf (vQ I (partner c))) i) fun x => (sumA I c (qOf (vQ I (partner c))) 15) ((rectA i).idx x)) ?_ ?_ ?_ ?_ ?_ ?_ ?_ ?_ <;> rfl
    rw [h, hK, hV]; rfl
  ihave Hl := (holds_to lM c (g := ownL I c) ?_) $$ Hl
  · refine (eight_l (sumL I c (qOf (vQ I c)) 15) (w := fun i => addL (hd i) ((two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (bat i)) ((qOf (vQ I c)) i) fun x => (sumL I c (qOf (vQ I c)) 15) ((rectL i).idx x)) ?_ ?_ ?_ ?_ ?_ ?_ ?_ ?_).trans (b := stepL (two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (qOf (vQ I c)) (sumL I c (qOf (vQ I c)) 15)) ?_
    iterate 8 rfl
    rw [hK]; rfl
  ihave Hlp := (holds_to lpM c (g := forL I c) ?_) $$ Hlp
  · refine (eight_lp (sumL I c (qOf (vQ I (partner c))) 15) (w := fun i => addL (hd i) ((two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (bat i)) ((qOf (vQ I (partner c))) i) fun x => (sumL I c (qOf (vQ I (partner c))) 15) ((rectL i).idx x)) ?_ ?_ ?_ ?_ ?_ ?_ ?_ ?_).trans (b := stepL (two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (qOf (vQ I (partner c))) (sumL I c (qOf (vQ I (partner c))) 15)) ?_
    iterate 8 rfl
    rw [hK]; rfl
  ihave Ha := (holds_to accM c (g := ownA I c) ?_) $$ Ha
  · refine (eight_acc (sumA I c (qOf (vQ I c)) 15) (w := fun i => addA (hd i) ((two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (bat i)) ((two (tileAt ((vals I).KV (origin 15 c)) ![1, 1, 0, 0, 0] inb_S2x2x2x256x256_S1x1x1x256x256_1_1_0_0_0) (tileAt ((vals I).KV (origin 15 c)) ![1, 1, 1, 0, 0] inb_S2x2x2x256x256_S1x1x1x256x256_1_1_1_0_0)) (bat i)) ((qOf (vQ I c)) i) fun x => (sumA I c (qOf (vQ I c)) 15) ((rectA i).idx x)) ?_ ?_ ?_ ?_ ?_ ?_ ?_ ?_).trans (b := stepA (two (tileAt ((vals I).KV (origin 15 c)) ![1, 0, 0, 0, 0] inb_S2x2x2x256x256_S1x1x1x256x256_1_0_0_0_0) (tileAt ((vals I).KV (origin 15 c)) ![1, 0, 1, 0, 0] inb_S2x2x2x256x256_S1x1x1x256x256_1_0_1_0_0)) (two (tileAt ((vals I).KV (origin 15 c)) ![1, 1, 0, 0, 0] inb_S2x2x2x256x256_S1x1x1x256x256_1_1_0_0_0) (tileAt ((vals I).KV (origin 15 c)) ![1, 1, 1, 0, 0] inb_S2x2x2x256x256_S1x1x1x256x256_1_1_1_0_0)) (qOf (vQ I c)) (sumA I c (qOf (vQ I c)) 15)) ?_
    iterate 8 rfl
    rw [hK, hV]; rfl
  ihave Hap := (holds_to accpM c (g := forA I c) ?_) $$ Hap
  · exact hAp _
  ihave Hb := (holds_to accbM c (g := (vals I).AX c) ?_) $$ Hb
  · refine (whole_accb _ _).trans ?_
    refine congrArg k0_pay160 ?_
    exact (View.readAt_full accpM.view (accpM.view.writes (Elt F) accpM.view.junk (middle.sl.Hap_8 I c)) inb_S8x256x64_S8x256x64_0_0_0).trans (show accpM.view.read (Elt F) _ = _ from hAp _)
  rw [dueLoop_end]
  unfold dueAX
  iapply (wp_send_partner (vals I) K c _ (dev7_eq c) accbM axM 7 9 (by rfl) (by rfl) ((vals I).AX c) ((vals I).AX c) (by decide) (by decide) rfl rfl
    (by exact BI.Entails.refl _) (by show _ ⊢ holds axM (partner c) ((vals I).AX (partner (partner c))); rw [partner_partner])
    (fun fd => by exact View.write_whole_univ ..) (dueLX c)) $$ [Hb Hax HO Ht7 Ht9]
  · isplitr; · iexact HI
    isplitl [Hb]; · iexact Hb
    isplitl [Hax]; · iexact Hax
    isplitl [HO]; · iexact HO
    isplitl [Ht7]; · iexact Ht7
    isplitr; · iexact Hr7
    isplitl [Ht9]; · iexact Ht9
    iexact HrP9
  iintro ⟨Hc7, HO⟩
  sl_exec
  unfold dueLX
  iapply (wp_send_partner (vals I) K c _ (dev8_eq c) lpM lxM 8 10 (by rfl) (by rfl) (forL I c) (forL I c) (by decide) (by decide) rfl rfl
    (by exact BI.Entails.refl _) (by show _ ⊢ holds lxM (partner c) (forL I (partner (partner c))); rw [partner_partner])
    (fun fd => by exact View.write_whole_univ ..) 0) $$ [Hlp Hlx HO Ht8 Ht10]
  · isplitr; · iexact HI
    isplitl [Hlp]; · iexact Hlp
    isplitl [Hlx]; · iexact Hlx
    isplitl [HO]; · rw [zero_add]; iexact HO
    isplitl [Ht8]; · iexact Ht8
    isplitr; · iexact Hr8
    isplitl [Ht10]; · iexact Ht10
    iexact HrP10
  iintro ⟨Hc8, HO⟩
  sl_exec
  iapply (wp_wait_cell (vals I) K c 7 (by rfl) (fun Q => wpE_waitDma2_eq ..) (r := 0) (d := 0) (by decide) (by rfl) 0 0 (by decide)
    (above_nil _)) $$ [Hc7 HO H7]
  · isplitr; · iexact HI
    isplitr; · iexact Hlev
    isplitl [Hc7]; · iexact Hc7
    isplitl [HO]; · iexact HO
    unfold stand
    isplitl [H7]; · iexact H7
    iexact Hr7
  iintro ⟨HO, H7, Hb⟩
  iapply (Entails.of_eq (wp_ret ..).symm)
  imodintro
  iapply (hk _)
  isplitr; · iexact HI
  isplitr; · iexact Hlev
  isplitr [HR]
  · unfold sent
    isplitl [H5 H6 H7 H8 H9 H10 Hpos]
    · isplitl [H5]; · iexact H5
      isplitl [H6]; · iexact H6
      isplitl [H7]; · iexact H7
      isplitl [H8]
      · unfold stand
        isplitl [H8]; · iexact H8
        iexact Hr8
      isplitl [H9]; · iexact H9
      isplitl [H10]; · iexact H10
      iexact Hpos
    isplitl [Hsp Hw Hq Hqp Hap Hb]
    · ihave Hsp := (Entails.of_eq (show (spare c 15 : sProp 𝕄) = iprop(∃ f, slot 0 c fullShare f) from if_neg (by decide))) $$ Hsp
      isplitl [Hsp]; · iexact Hsp
      isplitl [Hw]
      · iexists _
        iapply (Entails.of_eq (sl_window c 1 (by decide) fullShare _).symm)
        iexact Hw
      isplitl [Hq]; · iexists _; iexact Hq
      isplitl [Hqp]; · iexists _; iexact Hqp
      isplitl [Hap]; · iexists _; iexact Hap
      iexists _
      ihave Hb := (Entails.of_eq (show pay (vals I) (7 : Fin 11).val c 0 0 = holds accbM c ((vals I).AX c) from rfl)) $$ Hb
      iexact Hb
    isplitl [Hl Ha]
    · isplitl [Hl]; · iexact Hl
      iexact Ha
    isplitl [Hc8 Hc9 Hc10]
    · isplitl [Hc8]; · iexact Hc8
      isplitl [Hc9]; · iexact Hc9
      iexact Hc10
    iexact HO
  iexact HR

end Cert.KernelIdeal.Run
end
-- ==== Proof.Finish.lean ====
/- The third phase of the body: the partner's partial sums, the quotients, the output. -/
module

public import proofs.«01_k».proof.Proof.Middle

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The context's first batch, read once its four heads are written. -/
theorem half_ctx (w : Fin 8 → Vec F S1x256x64 .f32) {f0 f1 f2 f3 : Vec F S1x256x64 .f32} (h0 : f0 = w 0) (h1 : f1 = w 1) (h2 : f2 = w 2) (h3 : f3 = w 3) :
    ctxM.view.readCov [⟨rectQ 3, f3⟩, ⟨rectQ 2, f2⟩, ⟨rectQ 1, f1⟩, ⟨rectQ 0, f0⟩]
      (Rect.unit (s := S2x256x256) ![0, 0, 0] S1x256x256.size inb_S2x256x256_S1x256x256_0_0_0).toLoadRect = ctxB (slabC w) 0 := by
  subst h0 h1 h2 h3
  funext j
  refine (View.read_writes_apply_of_pieces ctxM.view ctxM.view.junk (slabC w) [⟨rectQ 3, w 3⟩, ⟨rectQ 2, w 2⟩, ⟨rectQ 1, w 1⟩, ⟨rectQ 0, w 0⟩] ?_ _ ?_).trans rfl
  · intro p hp
    simp only [List.mem_cons, List.not_mem_nil, or_false] at hp
    rcases hp with rfl | rfl | rfl | rfl <;> exact fun x => (slabC_emb w _ x).symm
  · have a0 : (j (0 : Fin 3)).val < 1 := (j (0 : Fin 3)).isLt
    have a1 : (j (1 : Fin 3)).val < 256 := (j (1 : Fin 3)).isLt
    have a2 : (j (2 : Fin 3)).val < 256 := (j (2 : Fin 3)).isLt
    have key : ∀ h : Fin 4, (j (2 : Fin 3)).val / 64 = h.val →
        (Rect.unit (s := S2x256x256) ![0, 0, 0] S1x256x256.size inb_S2x256x256_S1x256x256_0_0_0).toLoadRect.idx j ∈ (rectQ ⟨h.val, by omega⟩).set := by
      intro h e
      rw [Rect.mem_set_unit]
      have b : (bat ⟨h.val, by omega⟩).val = 0 := Nat.div_eq_of_lt h.isLt
      have b' : (hd ⟨h.val, by omega⟩).val = h.val := Nat.mod_eq_of_lt h.isLt
      intro a
      fin_cases a
      · show (bat ⟨h.val, _⟩).val ≤ 0 + 1 * (j (0 : Fin 3)).val ∧ 0 + 1 * (j (0 : Fin 3)).val < (bat ⟨h.val, _⟩).val + 1
        omega
      · show 0 ≤ 0 + 1 * (j (1 : Fin 3)).val ∧ 0 + 1 * (j (1 : Fin 3)).val < 0 + 256
        omega
      · show 64 * (hd ⟨h.val, _⟩).val ≤ 0 + 1 * (j (2 : Fin 3)).val ∧ 0 + 1 * (j (2 : Fin 3)).val < 64 * (hd ⟨h.val, _⟩).val + 64
        omega
    rcases (by omega : (j (2 : Fin 3)).val / 64 = 0 ∨ (j (2 : Fin 3)).val / 64 = 1 ∨ (j (2 : Fin 3)).val / 64 = 2 ∨ (j (2 : Fin 3)).val / 64 = 3) with e | e | e | e
    · exact ⟨⟨rectQ 0, w 0⟩, by simp, key 0 e⟩
    · exact ⟨⟨rectQ 1, w 1⟩, by simp, key 1 e⟩
    · exact ⟨⟨rectQ 2, w 2⟩, by simp, key 2 e⟩
    · exact ⟨⟨rectQ 3, w 3⟩, by simp, key 3 e⟩

variable (I : Dev nD → Ins F) (K : Dev nD × Fin 11 → ℕ)

/-- What the body leaves on a device. -/
def done (c : Dev nD) : sProp 𝕄 :=
  iprop((stand 5 c 1 ∗ stand 6 c 1 ∗ stand 7 c 1 ∗ stand 8 c 1 ∗ stand 9 c 1 ∗ stand 10 c 1 ∗ posAt c 15)
    ∗ ((∃ f, slot 0 c fullShare f) ∗ (∃ f, slot 1 c fullShare f) ∗ (∃ f, holds qM c f) ∗ (∃ f, holds qpM c f) ∗ (∃ f, holds ctxM c f)
      ∗ (∃ f, holds lM c f) ∗ (∃ f, holds accM c f) ∗ (∃ f, holds lpM c f) ∗ (∃ f, holds accpM c f) ∗ (∃ f, holds accbM c f)
      ∗ (∃ f, holds axM c f) ∗ (∃ f, holds lxM c f))
    ∗ holds soM c (vOut I c) ∗ owe c 0)

set_option maxHeartbeats 16000000 in
theorem finish (c : Dev nD) (v9 : BitVec 32) (x : Vec F S2x256x768 .f32) (wq wk wv : Vec F S768x256 .f32) (R : sProp 𝕄) (Q : PUnit → sProp 𝕄)
    (hk : iprop(done I c ∗ staged c x wq wk wv (I c).wo ∗ R) ⊢ Q ⟨⟩) :
    iprop(records (vals I) K ∗ levAts L lv ∗ sent I c ∗ (∃ f, holds ctxM c f) ∗ (∃ f, holds soM c f) ∗ staged c x wq wk wv (I c).wo ∗ R)
      ⊢ wp frame (wpE (defs₀ (F := F)) 𝒱₀ (c : Thread nD τ) none) Set.univ (third v9) Q := by
  unfold third phase3
  rw [k0_part33_eq_skeleton]
  unfold k0_part33_skel
  simp (config := { proj := false }) only [semSignalWord, semWaitWord, Prog.lift, Prog.bind_op, Prog.bind_ret, Prog.pure_eq_ret]
  unfold sent staged
  iintro ⟨#HI, #Hlev, ⟨⟨H5, H6, H7, H8, H9, H10, Hpos⟩, ⟨Hs0, Hs1, Hq, Hqp, Hap, Hb⟩, ⟨Hl, Ha⟩, ⟨Hc8, Hc9, Hc10⟩, HO⟩, ⟨%x0, Hctx⟩, ⟨%o0, Ho⟩, ⟨Hx, Hwq, Hwk, Hwv, Hwo⟩, HR⟩
  iapply (wp_wait_cell (vals I) K c 9 (by rfl) (fun Q => wpE_waitDma2_eq ..) (r := 0) (d := 0) (by decide) (by rfl) 0 0 (by decide) (above_nil _)) $$ [Hc9 HO H9]
  · isplitr; · iexact HI
    isplitr; · iexact Hlev
    isplitl [Hc9]; · iexact Hc9
    isplitl [HO]; · iexact HO
    iexact H9
  iintro ⟨HO, H9, Hax⟩
  ihave Hax := (Entails.of_eq (show pay (vals I) (9 : Fin 11).val c 0 0 = holds axM c ((vals I).AX (partner c)) from rfl)) $$ Hax
  iapply (wp_wait_cell (vals I) K c 8 (by rfl) (fun Q => wpE_waitDma2_eq ..) (r := 0) (d := 0) (by decide) (by rfl) 0 0 (by decide) (above_nil _)) $$ [Hc8 HO H8]
  · isplitr; · iexact HI
    isplitr; · iexact Hlev
    isplitl [Hc8]; · iexact Hc8
    isplitl [HO]; · iexact HO
    iexact H8
  iintro ⟨HO, H8, Hlp⟩
  ihave Hlp := (Entails.of_eq (show pay (vals I) (8 : Fin 11).val c 0 0 = holds lpM c (forL I c) from rfl)) $$ Hlp
  iapply (wp_wait_cell (vals I) K c 10 (by rfl) (fun Q => wpE_waitDma2_eq ..) (r := 0) (d := 0) (by decide) (by rfl) 0 0 (by decide) (above_nil _)) $$ [Hc10 HO H10]
  · isplitr; · iexact HI
    isplitr; · iexact Hlev
    isplitl [Hc10]; · iexact Hc10
    isplitl [HO]; · iexact HO
    iexact H10
  iintro ⟨HO, H10, Hlx⟩
  ihave Hlx := (Entails.of_eq (show pay (vals I) (10 : Fin 11).val c 0 0 = holds lxM c (forL I (partner c)) from rfl)) $$ Hlx
  sl_exec
  have hC : ∀ f, ctxM.view.writes (Elt F) f (finish.sl.Hctx_8 I c) = vCtx I c := fun f => by
    refine eight_ctx f (ctxP I c) ?_ ?_ ?_ ?_ ?_ ?_ ?_ ?_ <;> rfl
  have h0 : finish.sl.v669 I c = ctxB (vCtx I c) 0 := by
    refine half_ctx (ctxP I c) ?_ ?_ ?_ ?_ <;> rfl
  have h1 : finish.sl.v741 I c = ctxB (vCtx I c) 1 := by
    show ctxM.view.readAt (Elt F) _ (ctxM.view.writes (Elt F) ctxM.view.junk (finish.sl.Hctx_8 I c)) = _
    rw [hC]; rfl
  ihave Ho := (holds_to soM c (g := vOut I c) ?_) $$ Ho
  · refine two_out o0 (fun b => k0_pay1 (ctxB (vCtx I c) b) (ro (I c).wo)) ?_ ?_
    · rw [h0]; rfl
    · rw [h1]; rfl
  iapply (Entails.of_eq (wp_ret ..).symm)
  imodintro
  iapply hk
  isplitr [HR Hx Hwq Hwk Hwv Hwo]
  · unfold done
    isplitl [H5 H6 H7 H8 H9 H10 Hpos]
    · isplitl [H5]; · iexact H5
      isplitl [H6]; · iexact H6
      isplitl [H7]; · iexact H7
      isplitl [H8]; · iexact H8
      isplitl [H9]; · iexact H9
      isplitl [H10]; · iexact H10
      iexact Hpos
    isplitr [Ho HO]
    · isplitl [Hs0]; · iexact Hs0
      isplitl [Hs1]; · iexact Hs1
      isplitl [Hq]; · iexact Hq
      isplitl [Hqp]; · iexact Hqp
      isplitl [Hctx]; · iexists _; iexact Hctx
      isplitl [Hl]; · iexists _; iexact Hl
      isplitl [Ha]; · iexists _; iexact Ha
      isplitl [Hlp]; · iexists _; iexact Hlp
      isplitl [Hap]; · iexact Hap
      isplitl [Hb]; · iexact Hb
      isplitl [Hax]; · iexists _; iexact Hax
      iexists _; iexact Hlx
    isplitl [Ho]; · iexact Ho
    iexact HO
  isplitl [Hx Hwq Hwk Hwv Hwo]
  · unfold staged
    isplitl [Hx]; · iexact Hx
    isplitl [Hwq]; · iexact Hwq
    isplitl [Hwk]; · iexact Hwk
    isplitl [Hwv]; · iexact Hwv
    iexact Hwo
  iexact HR

/-- The body on one device: from the start of the protocol and the staged inputs to the output's block. -/
theorem whole_body (c : Dev nD) (R : sProp 𝕄) (Q : PUnit → sProp 𝕄)
    (hk : iprop(done I c ∗ staged c (I c).x (I c).wq (I c).wk (I c).wv (I c).wo ∗ R) ⊢ Q ⟨⟩) :
    iprop(records (vals I) K ∗ levAts L lv ∗ entry c ∗ scrE c ∗ staged c (I c).x (I c).wq (I c).wk (I c).wv (I c).wo
        ∗ (∃ f, holds accbM c f) ∗ (∃ f, holds ctxM c f) ∗ (∃ f, holds soM c f) ∗ R)
      ⊢ wp frame (wpE (defs₀ (F := F)) 𝒱₀ (c : Thread nD τ) none) Set.univ (first fun d0 v5 v7 v9 v10 w => second d0 v5 v7 v9 v10 w fun v => third v) Q := by
  refine start I K c _ iprop((∃ f, holds accbM c f) ∗ (∃ f, holds ctxM c f) ∗ (∃ f, holds soM c f) ∗ R) Q fun v5 v7 v9 w => ?_
  refine BIBase.Entails.trans (Q := iprop(records (vals I) K ∗ levAts L lv ∗ ready I c ∗ (∃ f, holds accbM c f) ∗ ((∃ f, holds ctxM c f) ∗ (∃ f, holds soM c f) ∗ staged c (I c).x (I c).wq (I c).wk (I c).wv (I c).wo ∗ R))) ?_ (middle I K c v5 v7 v9 w _ iprop((∃ f, holds ctxM c f) ∗ (∃ f, holds soM c f) ∗ staged c (I c).x (I c).wq (I c).wk (I c).wv (I c).wo ∗ R) Q fun v => ?_)
  · iintro ⟨HI, Hlev, Hr, Hst, Hb, Hc, Ho, HR⟩
    isplitl [HI]; · iexact HI
    isplitl [Hlev]; · iexact Hlev
    isplitl [Hr]; · iexact Hr
    isplitl [Hb]; · iexact Hb
    isplitl [Hc]; · iexact Hc
    isplitl [Ho]; · iexact Ho
    isplitl [Hst]; · iexact Hst
    iexact HR
  · exact finish I K c v (I c).x (I c).wq (I c).wk (I c).wv R Q hk

end Cert.KernelIdeal.Run
end
-- ==== Proof.Run.lean ====
/- The launch: every device gets its buffers, its place at every cell and the tokens of its payments; every execution ends, with the result computed, the arguments unchanged and every semaphore at zero. -/
module

public import proofs.«01_k».proof.Proof.Deal
public import proofs.«01_k».proof.Proof.Finish
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The inputs, as the staged buffers of each device hold them. -/
def ins (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  wk := (win0_2.blk (0 : Fin 1)).view.read (Elt F) (m ((c : Thread nD τ).loc main_arg2))
  wv := (win0_3.blk (0 : Fin 1)).view.read (Elt F) (m ((c : Thread nD τ).loc main_arg3))
  wo := (win0_4.blk (0 : Fin 1)).view.read (Elt F) (m ((c : Thread nD τ).loc main_arg4))

/-- The kernel's own semaphores: cells 1 to 10. -/
def osem (i : Fin 10) : SemLoc sig := csem i.succ

abbrev kcell (p : Dev nD × Fin 11) : GSem nD τ sig := cell p.2 p.1
theorem kcell_injective : Function.Injective kcell := fun p q h => by
  obtain ⟨h1, h2⟩ := cell_inj h; exact Prod.ext h2 h1

/-! ## The proof data -/

/-- What device `c`'s body starts from besides its buffers. -/
def entryP (c : Dev nD) : sProp 𝕄 :=
  iprop(bars c ∗ (bigSep Finset.univ fun i : Fin 11 => stand i c 0) ∗ (toksE c ∗ tokFrom c 0 ∗ toksP c)
    ∗ (cred (tallyAt (cell 0 c) 0 3) ∗ credFrom c 0 ∗ credsP c))
/-- That, the invariants and the levels. -/
def start₀ (c : Dev nD) : sProp 𝕄 := iprop((∃ K, records (vals (ins m)) K) ∗ levAts L lv ∗ entryP c)
def Φ₀ (c : Dev nD) : sProp 𝕄 := iprop(start₀ m c ∗ scrE c ∗ (∃ f, holds accbM c f) ∗ (∃ f, holds ctxM c f))
/-- What it ends with: the scratch buffers, and every semaphore at zero. -/
def Φ₁ (c : Dev nD) : sProp 𝕄 :=
  iprop((scrE c ∗ (∃ f, holds accbM c f) ∗ (∃ f, holds ctxM c f)) ∗ bigSep Finset.univ fun i : Fin 11 => semVal (cell i c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m c).x
    | ⟨1, _⟩ => (ins m c).wq
    | ⟨2, _⟩ => (ins m c).wk
    | ⟨3, _⟩ => (ins m c).wv
    | ⟨4, _⟩ => (ins m c).wo
    | ⟨5, _⟩ => vOut (ins m) c
  Φ t := match t with
    | ⟨0, _⟩ => Φ₀ m c
    | ⟨_ + 1, _⟩ => Φ₁ c
  q _ := fullShare
  owed t := match t with
    | ⟨0, _⟩ => due0 c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer, as the launch spells it. -/
theorem whole_eq (c : Dev nD) (b : Ref sig .tc) (f : Buf (Elt F) ((c : Thread nD τ).loc b)) :
    ((View.whole b).loc (c : Thread nD τ) ↦[(View.whole b).set]{fullShare} f : sProp 𝕄) = (((c : Thread nD τ).loc b) ↦{fullShare} f) := by
  rw [View.set_whole]

/-! ## The body -/

def bodyPre (c : Dev nD) : sProp 𝕄 :=
  iprop(Φ₀ m c ∗ (dats m ρ 0 c).owesAt (0 : ℕ) t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt (0 : ℕ) t0_0.succ
    ∗ stg c cc0_stg0_0 (ins m c).x ∗ stg c cc0_stg1_0 (ins m c).wq ∗ stg c cc0_stg2_0 (ins m c).wk ∗ stg c cc0_stg3_0 (ins m c).wv
    ∗ stg c cc0_stg4_0 (ins m c).wo ∗ stg c cc0_stg5_0 (vOut (ins m) c))

/-- A cell whose rounds are all done closes: its counter is zero. -/
theorem close (X : Vals F) (K : Dev nD × Fin 11 → ℕ) (c : Dev nD) (i : Fin 11) (r : ℕ) (hr : rounds i.val ≤ r) :
    iprop(records X K ∗ stand i c r) ⊢ (|={Set.univ}=> semVal (cell i c) 0 : sProp 𝕄) := by
  unfold stand
  iintro ⟨#HI, Hat, -⟩
  iapply (Rounds.cell_close ER (sched X) (Set.mem_univ (K (c, i))) (fun h => h) (R := r) fun s hs => duties_done X i c s (le_trans hr hs))
  isplitr; · iapply (inv_at X K c i); iexact HI
  iexact Hat

theorem fetches (w : Fin 6) (hw : w.val < 5) : (cfg0.win w).fetch t0_0 = true := by
  revert w; decide

theorem bigSep_fin11 (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The start of the protocol from what the launch deals. -/
theorem entry_of (c : Dev nD) : iprop(entryP c ∗ owe c (due0 c)) ⊢ (entry c : sProp 𝕄) := by
  unfold entryP entry standsP
  rw [bigSep_fin11]
  iintro ⟨⟨Hb, ⟨S0, S1, S2, S3, S4, S5, S6, S7, S8, S9, S10⟩, ⟨HE, HF, HP⟩, ⟨HC, HCF, HCP⟩⟩, HO⟩
  isplitl [Hb]; · iexact Hb
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [S6 S7 S8 S9 S10]
  · isplitl [S6]; · iexact S6
    isplitl [S7]; · iexact S7
    isplitl [S8]; · iexact S8
    isplitl [S9]; · iexact S9
    iexact S10
  isplitl [HE]; · iexact HE
  isplitl [HF]; · iexact HF
  isplitl [HP]; · iexact HP
  isplitl [HC]; · iexact HC
  isplitl [HCF]; · iexact HCF
  isplitl [HCP]; · iexact HCP
  iexact HO

/-- The end of the body: every cell closes. -/
theorem leave (c : Dev nD) (K : Dev nD × Fin 11 → ℕ) :
    iprop(done (ins m) c ∗ staged c (ins m c).x (ins m c).wq (ins m c).wk (ins m c).wv (ins m c).wo ∗ records (vals (ins m)) K)
      ⊢ (|={Set.univ}=> bodyPost m ρ c : sProp 𝕄) := by
  unfold done staged posAt
  iintro ⟨⟨⟨S5, S6, S7, S8, S9, S10, Sa, Sb, Sc, Sd, S0⟩, ⟨B0, B1, B2, B3, B4, B5, B6, B7, B8, B9, B10, B11⟩, Ho, HO⟩, ⟨H0, H1, H2, H3, H4⟩, #HI⟩
  imod (close (vals (ins m)) K c 0 16 (by decide)) $$ [S0] with Z0
  · isplitr; · iexact HI
    iexact S0
  imod (close (vals (ins m)) K c 1 8 (by decide)) $$ [Sb] with Z1
  · isplitr; · iexact HI
    iexact Sb
  imod (close (vals (ins m)) K c 2 7 (by decide)) $$ [Sa] with Z2
  · isplitr; · iexact HI
    iexact Sa
  imod (close (vals (ins m)) K c 3 7 (by decide)) $$ [Sc] with Z3
  · isplitr; · iexact HI
    iexact Sc
  imod (close (vals (ins m)) K c 4 8 (by decide)) $$ [Sd] with Z4
  · isplitr; · iexact HI
    iexact Sd
  imod (close (vals (ins m)) K c 5 1 (by decide)) $$ [S5] with Z5
  · isplitr; · iexact HI
    iexact S5
  imod (close (vals (ins m)) K c 6 1 (by decide)) $$ [S6] with Z6
  · isplitr; · iexact HI
    iexact S6
  imod (close (vals (ins m)) K c 7 1 (by decide)) $$ [S7] with Z7
  · isplitr; · iexact HI
    iexact S7
  imod (close (vals (ins m)) K c 8 1 (by decide)) $$ [S8] with Z8
  · isplitr; · iexact HI
    iexact S8
  imod (close (vals (ins m)) K c 9 1 (by decide)) $$ [S9] with Z9
  · isplitr; · iexact HI
    iexact S9
  imod (close (vals (ins m)) K c 10 1 (by decide)) $$ [S10] with Z10
  · isplitr; · iexact HI
    iexact S10
  imodintro
  unfold bodyPost Φ₁ scrE Dat.owesAt Pipeline.owesWithin
  rw [bigSep_fin11]
  isplitr [Ho HO H0 H1 H2 H3 H4]
  · isplitl [B0 B1 B2 B3 B4 B5 B6 B7 B8 B9 B10 B11]
    · isplitr [B9 B4]
      · isplitl [B2]; · iexact B2
        isplitl [B3]; · iexact B3
        isplitl [B0]; · iexact B0
        isplitl [B1]; · iexact B1
        isplitl [B5]; · iexact B5
        isplitl [B6]; · iexact B6
        isplitl [B7]; · iexact B7
        isplitl [B8]; · iexact B8
        isplitl [B10]; · iexact B10
        iexact B11
      isplitl [B9]; · iexact B9
      iexact B4
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    iexact Z10
  isplitl [HO]
  · unfold owe
    icases HO with ⟨%W, HO⟩
    iexists W
    isplitr; · ipureintro; exact fun _ _ => Or.inl trivial
    iexact HO
  isplitl [H0]
  · iexists _; isplitr; · ipureintro; rfl
    iapply (Entails.of_eq (whole_eq c cc0_stg0_0 _)); iexact H0
  isplitl [H1]
  · iexists _; isplitr; · ipureintro; rfl
    iapply (Entails.of_eq (whole_eq c cc0_stg1_0 _)); iexact H1
  isplitl [H2]
  · iexists _; isplitr; · ipureintro; rfl
    iapply (Entails.of_eq (whole_eq c cc0_stg2_0 _)); iexact H2
  isplitl [H3]
  · iexists _; isplitr; · ipureintro; rfl
    iapply (Entails.of_eq (whole_eq c cc0_stg3_0 _)); iexact H3
  isplitl [H4]
  · iexists _; isplitr; · ipureintro; rfl
    iapply (Entails.of_eq (whole_eq c cc0_stg4_0 _)); iexact H4
  iexists _; isplitr; · ipureintro; rfl
  iapply (Entails.of_eq (whole_eq c cc0_stg5_0 _)); iexact Ho

/-- The two slots make up the ring buffer. -/
theorem slots_univ : slotSet 0 ∪ slotSet 1 = Finset.univ := by
  ext i
  have h2 : (i (0 : Fin 5)).val < 2 := (i (0 : Fin 5)).isLt
  simp only [Finset.mem_union, mem_slotSet, Finset.mem_univ, iff_true]
  omega
theorem slots_disjoint : Disjoint (slotSet 0) (slotSet 1) := by
  rw [Finset.disjoint_left]
  intro i h0 h1
  rw [mem_slotSet] at h0 h1
  omega
theorem slots_split (c : Dev nD) (f : Vec F S2x2x2x256x256 .bf16) :
    (((c : Thread nD τ).loc cc0_scratch3) ↦{fullShare} f : sProp 𝕄) ⊢ iprop(slot 0 c fullShare f ∗ slot 1 c fullShare f) := by
  refine BIBase.Entails.trans (Entails.of_eq ?_) (pointsTo_union slots_disjoint).1
  rw [slots_univ]
theorem slots_join (c : Dev nD) (f g : Vec F S2x2x2x256x256 .bf16) :
    iprop(slot 0 c fullShare f ∗ slot 1 c fullShare g) ⊢ (iprop(∃ f : Buf (Elt F) ((c : Thread nD τ).loc cc0_scratch3), ((c : Thread nD τ).loc cc0_scratch3) ↦{fullShare} f) : sProp 𝕄) := by
  iintro ⟨H0, H1⟩
  ihave H := (pointsTo_join (ℓ := (c : Thread nD τ).loc cc0_scratch3) (I := slotSet 0) (J := slotSet 1) (f := f) (g := g) (q := fullShare) slots_disjoint) $$ [H0 H1]
  · isplitl [H0] <;> iassumption
  iexists ((slotSet 1).piecewise g f)
  ihave H := (Entails.of_eq (congrArg (fun S => ((c : Thread nD τ).loc cc0_scratch3 ↦[S]{fullShare} (slotSet 1).piecewise g f : sProp 𝕄)) slots_univ)) $$ H
  iexact H

theorem opened_of : (bigSep Finset.univ fun c : Dev nD => bigSep Finset.univ fun i : Fin 11 => iprop(atPos ER (cell i c) 0 ∅ 0 ∗ reached ER (cell i c) 0))
      ⊢ (iprop((bigSep Finset.univ fun p : Dev nD × Fin 11 => reached ER (kcell p) 0) ∗ bigSep Finset.univ fun c : Dev nD => bigSep Finset.univ fun i : Fin 11 => iprop(atPos ER (cell i c) 0 ∅ 0 ∗ reached ER (cell i c) 0)) : sProp 𝕄) := by
  rw [← bigSep_univ_prod (fun p : Dev nD × Fin 11 => (iprop(atPos ER (kcell p) 0 ∅ 0 ∗ reached ER (kcell p) 0) : sProp 𝕄)), bigSep_sep']
  iintro ⟨H, #HR⟩
  isplitr; · iexact HR
  isplitl [H]; · iexact H
  iexact HR

set_option maxHeartbeats 1600000 in
theorem sound_body (c : Dev nD) :
    bodyPre m ρ c ⊢ wp frame (wpE (defs₀ (F := F)) 𝒱₀ (c : Thread nD τ) none) Set.univ
      (first fun d0 v5 v7 v9 v10 w => second d0 v5 v7 v9 v10 w fun v => third v) fun _ => bodyPost m ρ c := by
  unfold bodyPre Φ₀ start₀
  iintro ⟨⟨⟨⟨%K, #HI⟩, #Hlev, He⟩, Hscr, Hb, Hctx⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = (ins m c).x := by rw [hg0]; unfold Dat.before; rw [if_pos (fetches 0 (by decide))]; rfl
  have h1 : g1 = (ins m c).wq := by rw [hg1]; unfold Dat.before; rw [if_pos (fetches 1 (by decide))]; rfl
  have h2 : g2 = (ins m c).wk := by rw [hg2]; unfold Dat.before; rw [if_pos (fetches 2 (by decide))]; rfl
  have h3 : g3 = (ins m c).wv := by rw [hg3]; unfold Dat.before; rw [if_pos (fetches 3 (by decide))]; rfl
  have h4 : g4 = (ins m c).wo := by rw [hg4]; unfold Dat.before; rw [if_pos (fetches 4 (by decide))]; rfl
  subst h0 h1 h2 h3 h4
  unfold Dat.owesAt Pipeline.owesWithin
  icases Ho with ⟨%W, %hW, HO⟩
  rw [show (dats m ρ 0 c).owed t0_0.castSucc = due0 c from rfl]
  iapply (wp_fupd)
  iapply (whole_body (ins m) K c iprop(records (vals (ins m)) K) (fun _ => iprop(|={Set.univ}=> bodyPost m ρ c)) (leave m ρ c K))
  isplitr; · iexact HI
  isplitr; · iexact Hlev
  isplitl [He HO]
  · iapply (entry_of c); isplitl [He]; · iexact He
    unfold owe; iexists W; iexact HO
  isplitl [Hscr]; · iexact Hscr
  isplitl [H0 H1 H2 H3 H4]
  · unfold staged
    isplitl [H0]; · iapply (Entails.of_eq (whole_eq c cc0_stg0_0 _).symm); iexact H0
    isplitl [H1]; · iapply (Entails.of_eq (whole_eq c cc0_stg1_0 _).symm); iexact H1
    isplitl [H2]; · iapply (Entails.of_eq (whole_eq c cc0_stg2_0 _).symm); iexact H2
    isplitl [H3]; · iapply (Entails.of_eq (whole_eq c cc0_stg3_0 _).symm); iexact H3
    iapply (Entails.of_eq (whole_eq c cc0_stg4_0 _).symm); iexact H4
  isplitl [Hb]; · iexact Hb
  isplitl [Hctx]; · iexact Hctx
  isplitl [H5]; · iexists g5; iapply (Entails.of_eq (whole_eq c cc0_stg5_0 _).symm); iexact H5
  iexact HI

theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩
def ringToks : Finset (GSem nD τ sig × ℕ × Fin 3) := Finset.univ.map ⟨tokOf, tokOf_injective⟩
def u₀ : UU := (initOf (Pipeline.cells cfgs cellOf_inj) (Pipeline.launchToks cfgs cellOf_inj), initOf ringCells ringToks)

/-- What the launch deals device `c`. -/
def G (c : Dev nD) : sProp 𝕄 :=
  iprop((bigSep Finset.univ fun i : Fin 11 => roundState ER (sched (vals (ins m))) (cell i c) 0)
    ∗ (bigSep Finset.univ fun i : Fin 11 => iprop(atPos ER (cell i c) 0 ∅ 0 ∗ reached ER (cell i c) 0)) ∗ toks c)

/-- What the step over all devices makes of it. -/
def G' (c : Dev nD) : sProp 𝕄 :=
  iprop((∃ K, records (vals (ins m)) K) ∗ bars c ∗ (bigSep Finset.univ fun i : Fin 11 => stand i c 0) ∗ (toksE c ∗ tokFrom c 0 ∗ toksP c))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 11 => Φ (cell i c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched (vals (ins m))) ringCells ringToks) $$ HX with ⟨Hst, Hr, Hat, Htok⟩
  imodintro
  ihave Hst' := (Entails.of_eq (hX fun g => roundState ER (sched (vals (ins m))) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = bigSep Finset.univ fun i : Fin 10 => semVal (cell i.succ c) 0 := rfl
theorem unscopedSems0_eq (c : Dev nD) : (unscopedSems0 c : sProp 𝕄) = semVal (cell 0 c) 0 := by
  unfold unscopedSems0; rw [bigSep_eq_bigSepL_of_eq [SemLoc.reg barS] (by decide) (by decide)]; rfl
theorem bigSep_succ (Φ : Fin 11 → sProp 𝕄) : bigSep Finset.univ Φ = iprop(Φ 0 ∗ bigSep Finset.univ fun i : Fin 10 => Φ i.succ) := by
  rw [bigSep_univ_eq_bigSepL [0, 1, 2, 3, 4, 5, 6, 7, 8, 9, 10] (by decide) (by decide),
    bigSep_univ_eq_bigSepL (I := Fin 10) [0, 1, 2, 3, 4, 5, 6, 7, 8, 9] (by decide) (by decide)]
  rfl
theorem sems0_eq (c : Dev nD) :
    (bigSep Finset.univ fun i : Fin 11 => (semVal (cell i c) 0 : sProp 𝕄))
      = iprop(unscopedSems0 c ∗ Pipeline.ownSems0 (Ix := ℕ) (Name := ℕ) (U := UU) (Lvl := ℕ) (Val := Elt F) (τ := τ) osem c) := by
  rw [ownSems0_eq, unscopedSems0_eq, bigSep_succ]

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched (vals (ins m))) κ (cell i c)))
          ∗ (bigSep Finset.univ fun i => iprop(atPos ER (cell i c) 0 ∅ 0 ∗ reached ER (cell i c) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : Fin 11 => semVal (cell i c) 0) ∗ bigSep Finset.univ fun i : Fin 11 => roundState ER (sched (vals (ins m))) (cell i c) 0)
      ⊢ (|={Set.univ}=> bigSep Finset.univ fun i => iprop(∃ κ : ℕ, cellInv ER (sched (vals (ins m))) κ (cell i c)) : sProp 𝕄) from by
        rw [← bigSep_sep']
        exact (bigSep_mono fun i _ => (Rounds.body_intro ER (sched (vals (ins m))) (cell i c)).trans inv_alloc).trans (bigSep_fupd _ _)) $$ [Hv Hst] with Hinv
  · isplitl [Hv] <;> iassumption
  imodintro
  isplitl [Hinv]; · iexact Hinv
  isplitl [Hat]; · iexact Hat
  iexact Htok

/-- Every cell is at its first round. -/
def opened : sProp 𝕄 := bigSep Finset.univ fun p : Dev nD × Fin 11 => reached ER (kcell p) 0
instance opened_persistent : BI.Persistent (opened (F := F)) := by unfold opened; infer_instance
theorem opened_at (i : Fin 11) (c : Dev nD) : (opened : sProp 𝕄) ⊢ reached ER (cell i c) 0 :=
  bigSep_elim (Φ := fun p : Dev nD × Fin 11 => (reached ER (kcell p) 0 : sProp 𝕄)) (Finset.mem_univ (c, i))

theorem with_persistent {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 11 → ℕ) (c : Dev nD) :
    iprop((records (vals (ins m)) K ∗ opened) ∗ ((bigSep Finset.univ fun i : Fin 11 => iprop(atPos ER (cell i c) 0 ∅ 0 ∗ reached ER (cell i c) 0)) ∗ payToks c)) ⊢ G' m c := by
  unfold G' bars
  iintro ⟨⟨#HI, #HR⟩, Hat, Htok⟩
  isplitr; · iexists K; iexact HI
  isplitr
  · isplitr; · iapply (opened_at (F := F) 0 (left c)); iexact HR
    isplitr; · iapply (opened_at (F := F) 0 (right c)); iexact HR
    iapply (opened_at (F := F) 0 (partner c)); iexact HR
  isplitl [Hat]
  · unfold stand; iexact Hat
  iapply (payToks_eq c); iexact Htok

theorem regroup :
    (bigSep Finset.univ fun c : Dev nD => iprop((bigSep Finset.univ fun i => iprop(∃ κ : ℕ, cellInv ER (sched (vals (ins m))) κ (cell i c)))
          ∗ (bigSep Finset.univ fun i => iprop(atPos ER (cell i c) 0 ∅ 0 ∗ reached ER (cell i c) 0)) ∗ toks c) : sProp 𝕄)
      ⊢ bigSep Finset.univ (G' m) := by
  rw [bigSep_sep', bigSep_sep', ← bigSep_univ_prod (fun p : Dev nD × Fin 11 => iprop(∃ κ : ℕ, cellInv ER (sched (vals (ins m))) κ (kcell p))), toks_around]
  iintro ⟨HI, Hat, Htok⟩
  ihave HK := (BI.bigSep_exists_pi Finset.univ (fun (p : Dev nD × Fin 11) (κ : ℕ) => (cellInv ER (sched (vals (ins m))) κ (kcell p) : sProp 𝕄))) $$ HI
  icases HK with ⟨%K, #HI⟩
  ihave Hat' := (show (bigSep Finset.univ fun c : Dev nD => bigSep Finset.univ fun i : Fin 11 => iprop(atPos ER (cell i c) 0 ∅ 0 ∗ reached ER (cell i c) 0))
      ⊢ (iprop(opened ∗ bigSep Finset.univ fun c : Dev nD => bigSep Finset.univ fun i : Fin 11 => iprop(atPos ER (cell i c) 0 ∅ 0 ∗ reached ER (cell i c) 0)) : sProp 𝕄) from opened_of) $$ Hat
  icases Hat' with ⟨#HR, Hat⟩
  iapply (with_persistent (R := iprop(records (vals (ins m)) K ∗ opened)) fun c _ => ghost_intro m K c)
  isplitr
  · isplitl; · unfold records; iexact HI
    iexact HR
  · iapply (Entails.of_eq (bigSep_sep' Finset.univ (fun c : Dev nD => bigSep Finset.univ fun i : Fin 11 => (iprop(atPos ER (cell i c) 0 ∅ 0 ∗ reached ER (cell i c) 0) : sProp 𝕄)) payToks).symm)
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred due0 c ∗ prngReg c (ρ c) ∗ G' m c)
      ⊢ |={Set.univ}=> iprop(start₀ m c ∗ emp) := by
  unfold G' start₀ entryP
  iintro ⟨-, Hlev, Hcr, -, HI, Hb, Hst, Htok⟩
  ihave Hc := (creds (F := F) c) $$ Hcr
  imodintro
  isplitl
  · isplitl [HI]; · iexact HI
    isplitl [Hlev]; · iexact Hlev
    isplitl [Hb]; · iexact Hb
    isplitl [Hst]; · iexact Hst
    isplitl [Htok]; · iexact Htok
    iexact Hc
  · iempintro

/-- The scratch buffers as the launch lists them and as the protocol holds them. -/
theorem scratch_in (c : Dev nD) : (Pipeline.scopedRest (Ix := ℕ) (Name := ℕ) (U := UU) (Lvl := ℕ) (Val := Elt F) cfg0.spec c : sProp 𝕄)
    ⊢ iprop(scrE c ∗ (∃ f, holds accbM c f) ∗ (∃ f, holds ctxM c f)) := by
  rw [scopedRest0_eq]
  unfold scrE
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩
  ihave H3 := (slots_split c f3) $$ H3
  icases H3 with ⟨Hs0, Hs1⟩
  isplitr [H8 H2]
  · isplitl [H0]; · iexists f0; iapply (Entails.of_eq (whole_eq c cc0_scratch0 _).symm); iexact H0
    isplitl [H1]; · iexists f1; iapply (Entails.of_eq (whole_eq c cc0_scratch1 _).symm); iexact H1
    isplitl [Hs0]; · iexists f3; iexact Hs0
    isplitl [Hs1]; · iexists f3; iexact Hs1
    isplitl [H4]; · iexists f4; iapply (Entails.of_eq (whole_eq c cc0_scratch4 _).symm); iexact H4
    isplitl [H5]; · iexists f5; iapply (Entails.of_eq (whole_eq c cc0_scratch5 _).symm); iexact H5
    isplitl [H6]; · iexists f6; iapply (Entails.of_eq (whole_eq c cc0_scratch6 _).symm); iexact H6
    isplitl [H7]; · iexists f7; iapply (Entails.of_eq (whole_eq c cc0_scratch7 _).symm); iexact H7
    isplitl [H9]; · iexists f9; iapply (Entails.of_eq (whole_eq c cc0_scratch9 _).symm); iexact H9
    iexists f10; iapply (Entails.of_eq (whole_eq c cc0_scratch10 _).symm); iexact H10
  isplitl [H8]; · iexists f8; iapply (Entails.of_eq (whole_eq c cc0_scratch8 _).symm); iexact H8
  iexists f2; iapply (Entails.of_eq (whole_eq c cc0_scratch2 _).symm); iexact H2

theorem scratch_out (c : Dev nD) : iprop(scrE c ∗ (∃ f, holds accbM c f) ∗ (∃ f, holds ctxM c f))
    ⊢ (Pipeline.scopedRest (Ix := ℕ) (Name := ℕ) (U := UU) (Lvl := ℕ) (Val := Elt F) cfg0.spec c : sProp 𝕄) := by
  rw [scopedRest0_eq]
  unfold scrE
  iintro ⟨⟨⟨%f0, H0⟩, ⟨%f1, H1⟩, ⟨%g0, Hs0⟩, ⟨%g1, Hs1⟩, ⟨%f4, H4⟩, ⟨%f5, H5⟩, ⟨%f6, H6⟩, ⟨%f7, H7⟩, ⟨%f9, H9⟩, ⟨%f10, H10⟩⟩, ⟨%f8, H8⟩, ⟨%f2, H2⟩⟩
  isplitl [H0]; · iexists f0; iapply (Entails.of_eq (whole_eq c cc0_scratch0 _)); iexact H0
  isplitl [H1]; · iexists f1; iapply (Entails.of_eq (whole_eq c cc0_scratch1 _)); iexact H1
  isplitl [H2]; · iexists f2; iapply (Entails.of_eq (whole_eq c cc0_scratch2 _)); iexact H2
  isplitl [Hs0 Hs1]
  · iapply (slots_join c g0 g1); isplitl [Hs0] <;> iassumption
  isplitl [H4]; · iexists f4; iapply (Entails.of_eq (whole_eq c cc0_scratch4 _)); iexact H4
  isplitl [H5]; · iexists f5; iapply (Entails.of_eq (whole_eq c cc0_scratch5 _)); iexact H5
  isplitl [H6]; · iexists f6; iapply (Entails.of_eq (whole_eq c cc0_scratch6 _)); iexact H6
  isplitl [H7]; · iexists f7; iapply (Entails.of_eq (whole_eq c cc0_scratch7 _)); iexact H7
  isplitl [H8]; · iexists f8; iapply (Entails.of_eq (whole_eq c cc0_scratch8 _)); iexact H8
  isplitl [H9]; · iexists f9; iapply (Entails.of_eq (whole_eq c cc0_scratch9 _)); iexact H9
  iexists f10; iapply (Entails.of_eq (whole_eq c cc0_scratch10 _)); iexact H10

theorem phi0_intro (c : Dev nD) :
    iprop(start₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems0_eq]
  iintro ⟨Hr, Hu, Ho⟩
  isplitl [Hu]; · iexact Hu
  isplitl [Ho]; · iexact Ho
  iapply (scratch_out c); iexact Hr

theorem mayWait_stage (c : Dev nD) (q : DmaSem sig) (hq : cls (.dma q) = 11) (O : CellTallies nD τ sig ℕ) (hO : O = due0 c ∨ O = 0) :
    (levAts L lv : sProp 𝕄) ⊢ MayWait (c : Thread nD τ) (.dma q) (0 : ℕ) O := by
  rcases hO with rfl | rfl
  · refine mayWait (by decide) ((above_0 c).mono ?_)
    show lvl (cls (.dma q)) 0 ≤ 0
    rw [hq]; exact Nat.le_refl 0
  · rw [MayWait_zero]; iintro -; iempintro

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of 32 devices, for any float values, from any memory with zero counters: every weakly fair execution
    terminates, and every final state has each device's result at the computed contents, the arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := due0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start₀ m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The frame, for any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 0).trans ((dats m ρ 0 c).arrAt_in (0 : Fin 6) rfl _),
      (h.1 c 1).trans ((dats m ρ 0 c).arrAt_in (1 : Fin 6) rfl _), (h.1 c 2).trans ((dats m ρ 0 c).arrAt_in (2 : Fin 6) rfl _),
      (h.1 c 3).trans ((dats m ρ 0 c).arrAt_in (3 : Fin 6) rfl _), (h.1 c 4).trans ((dats m ρ 0 c).arrAt_in (4 : Fin 6) rfl _)⟩, h.2⟩) (run_main m ρ)

end Cert.KernelIdeal.Run
end
-- ==== Proof.Attn.lean ====
/- The mathematics both programs compute, over the extended reals: projections, rotations by an angle, and a softmax as a
   quotient of two sums, with the maximum subtracted and without. -/
module

public import Idealize.ShloMosaic.Lib.Pointwise
public import Mathlib.Algebra.BigOperators.Fin

@[expose] public section

noncomputable section

namespace Cert.Attn

open Idealize.ShloMosaic

/-! ## The extended reals -/

/-- A real factor that is not negative goes into a sum. -/
theorem mul_sum {ι : Type} (s : Finset ι) (f : ι → EReal) (a : ℝ) (ha : 0 ≤ a) : (a : EReal) * ∑ i ∈ s, f i = ∑ i ∈ s, (a : EReal) * f i := by
  classical
  induction s using Finset.induction_on with
  | empty => simp
  | insert x s hx ih =>
    rw [Finset.sum_insert hx, Finset.sum_insert hx, EReal.left_distrib_of_nonneg_of_ne_top (EReal.coe_nonneg.mpr ha) (EReal.coe_ne_top a), ih]

/-- A sum of reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

/-- What is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.coe (r : ℝ) : IsReal (r : EReal) := ⟨r, rfl⟩
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-! ## The softmax -/

theorem exp_coe (r : ℝ) : Ideal.exp ((r : ℝ) : EReal) = ((Real.exp r : ℝ) : EReal) := rfl
theorem div_coe (x : EReal) (r : ℝ) (hr : r ≠ 0) : Ideal.div x (r : EReal) = x * ((r⁻¹ : ℝ) : EReal) := by
  unfold Ideal.div
  rw [if_neg (by exact_mod_cast hr), EReal.coe_inv]

/-- The greatest of finitely many reals, at least one, is a real. -/
theorem fold_max {n : ℕ} (s : Fin (n + 1) → ℝ) : IsReal (Finset.fold max (⊥ : EReal) (fun j => ((s j : ℝ) : EReal)) Finset.univ) := by
  generalize hM : Finset.fold max (⊥ : EReal) (fun j => ((s j : ℝ) : EReal)) Finset.univ = M
  have h1 : M ≠ ⊤ := by
    rw [← hM]; exact ne_of_lt ((Finset.fold_max_lt _).mpr ⟨bot_lt_top, fun j _ => EReal.coe_lt_top _⟩)
  have h2 : M ≠ ⊥ := by
    rw [← hM]; exact ne_of_gt ((Finset.lt_fold_max _).mpr (.inr ⟨0, Finset.mem_univ _, EReal.bot_lt_coe _⟩))
  exact ⟨M.toReal, (EReal.coe_toReal h1 h2).symm⟩

/-- The weighted sum over the sum of the weights, the weights exp(score), is the sum weighted by the quotients, the weights
    exp(score less the greatest score). -/
theorem softmax {n : ℕ} (s : Fin (n + 1) → EReal) (hs : ∀ j, IsReal (s j)) (v : Fin (n + 1) → EReal) :
    Ideal.div (∑ j, Ideal.exp (s j) * v j) (∑ j, Ideal.exp (s j))
      = ∑ j, v j * Ideal.div (Ideal.exp (s j - Finset.fold max (⊥ : EReal) s Finset.univ))
          (∑ k, Ideal.exp (s k - Finset.fold max (⊥ : EReal) s Finset.univ)) := by
  choose t ht using hs
  obtain rfl : s = fun j => ((t j : ℝ) : EReal) := funext ht
  obtain ⟨M, hM⟩ := fold_max t
  rw [hM]
  simp only [← EReal.coe_sub, exp_coe]
  rw [coe_sum, coe_sum]
  have hL : 0 < ∑ j, Real.exp (t j) := Finset.sum_pos (fun j _ => Real.exp_pos _) Finset.univ_nonempty
  have hL' : 0 < ∑ j, Real.exp (t j - M) := Finset.sum_pos (fun j _ => Real.exp_pos _) Finset.univ_nonempty
  rw [div_coe _ _ hL.ne', mul_comm, mul_sum _ _ _ (inv_nonneg.mpr hL.le)]
  refine Finset.sum_congr rfl fun j _ => ?_
  rw [div_coe _ _ hL'.ne', ← EReal.coe_mul, ← mul_assoc, ← EReal.coe_mul, mul_comm (v j)]
  refine congrArg (fun r : ℝ => (r : EReal) * v j) ?_
  have e : ∀ j, Real.exp (t j - M) = Real.exp (t j) * (Real.exp M)⁻¹ := fun j => by rw [Real.exp_sub, div_eq_mul_inv]
  simp only [e]
  rw [← Finset.sum_mul]
  have hM0 := Real.exp_pos M
  field_simp

/-! ## Projection and rotation -/

/-- The angle of feature `n` at position `i`. -/
def angle (i n : ℕ) : ℝ := (i : ℝ) * (1 / Real.rpow 10000 (((2 * (n % 64 / 2) : ℕ) : ℝ) / 64))

def next (n : Fin 256) : Fin 256 := ⟨(n.val + 256 - 255) % 256, Nat.mod_lt _ (by decide)⟩
def prev (n : Fin 256) : Fin 256 := ⟨(n.val + 256 - 1) % 256, Nat.mod_lt _ (by decide)⟩

/-- The rotation of a row of projections at position `i`: each pair of features turned by its angle. -/
def rope (P : Fin 256 → EReal) (i : ℕ) (n : Fin 256) : EReal :=
  P n * ((Real.cos (angle i n.val) : ℝ) : EReal)
    + (if n.val % 2 = 0 then -P (next n) else P (prev n)) * ((Real.sin (angle i n.val) : ℝ) : EReal)

theorem rope_fin (P : Fin 256 → EReal) (h : ∀ n, IsReal (P n)) (i : ℕ) (n : Fin 256) : IsReal (rope P i n) := by
  unfold rope
  refine ((h n).mul (.coe _)).add (IsReal.mul ?_ (.coe _))
  split
  · exact (h _).neg
  · exact h _

/-- The projection of position `i` of batch `b`. -/
def proj {N : ℕ} (x : FVec Ideal ⟨3, ![2, N, 768]⟩ .f32) (w : FVec Ideal ⟨2, ![768, 256]⟩ .f32) (b : Fin 2) (i : Fin N) (n : Fin 256) : EReal :=
  ∑ k : Fin 768, x (ix3 b i k) * w (ix2 k n)

theorem proj_fin {N : ℕ} (x : FVec Ideal ⟨3, ![2, N, 768]⟩ .f32) (w : FVec Ideal ⟨2, ![768, 256]⟩ .f32) (hx : ∀ i, IsReal (x i)) (hw : ∀ i, IsReal (w i))
    (b : Fin 2) (i : Fin N) (n : Fin 256) : IsReal (proj x w b i n) :=
  IsReal.sum _ _ fun k => (hx _).mul (hw _)

/-- Feature `d` of head `h`. -/
def feat (h : Fin 4) (d : Fin 64) : Fin 256 := ⟨64 * h.val + d.val, by omega⟩

/-- The score of two rotated rows at a head. -/
def score (q k : Fin 256 → EReal) (h : Fin 4) : EReal := (∑ d : Fin 64, q (feat h d) * k (feat h d)) * ((1 / 8 : ℝ) : EReal)

theorem score_fin (q k : Fin 256 → EReal) (h : Fin 4) (hq : ∀ n, IsReal (q n)) (hk : ∀ n, IsReal (k n)) : IsReal (score q k h) :=
  (IsReal.sum _ _ fun d => (hq _).mul (hk _)).mul (.coe _)

/-- The scale may be taken into the first row. -/
theorem score_scaled (q k : Fin 256 → EReal) (h : Fin 4) :
    ∑ d : Fin 64, q (feat h d) * ((1 / 8 : ℝ) : EReal) * k (feat h d) = score q k h := by
  unfold score
  rw [mul_comm, mul_sum _ _ _ (by norm_num)]
  refine Finset.sum_congr rfl fun d _ => ?_
  rw [mul_comm (q _), mul_assoc]

/-- The score of positions `i` and `j` of batch `b` at head `h`. -/
def scores {N : ℕ} (x : FVec Ideal ⟨3, ![2, N, 768]⟩ .f32) (wq wk : FVec Ideal ⟨2, ![768, 256]⟩ .f32) (b : Fin 2) (i : Fin N) (h : Fin 4) (j : Fin N) : EReal :=
  score (rope (proj x wq b i) i.val) (rope (proj x wk b j) j.val) h

theorem scores_fin {N : ℕ} (x : FVec Ideal ⟨3, ![2, N, 768]⟩ .f32) (wq wk : FVec Ideal ⟨2, ![768, 256]⟩ .f32) (hx : ∀ i, IsReal (x i))
    (hq : ∀ i, IsReal (wq i)) (hk : ∀ i, IsReal (wk i)) (b : Fin 2) (i : Fin N) (h : Fin 4) (j : Fin N) : IsReal (scores x wq wk b i h j) :=
  score_fin _ _ _ (rope_fin _ (proj_fin x wq hx hq b i) _) (rope_fin _ (proj_fin x wk hx hk b j) _)

/-- The context at feature `n`: the values' sum weighted by exp(score), over the sum of the weights. -/
def attend {N : ℕ} (x : FVec Ideal ⟨3, ![2, N, 768]⟩ .f32) (wq wk wv : FVec Ideal ⟨2, ![768, 256]⟩ .f32) (b : Fin 2) (i : Fin N) (n : Fin 256) : EReal :=
  Ideal.div (∑ j, Ideal.exp (scores x wq wk b i ⟨n.val / 64, by omega⟩ j) * proj x wv b j n)
    (∑ j, Ideal.exp (scores x wq wk b i ⟨n.val / 64, by omega⟩ j))

/-! ## The constants -/

theorem f32_64 : Ideal.ofBits .f32 0x42800000#32 = ((64 : ℝ) : EReal) := by
  simp [Ideal.ofBits, Ideal.ieee, -EReal.coe_mul]; norm_num
theorem f32_10000 : Ideal.ofBits .f32 0x461C4000#32 = ((10000 : ℝ) : EReal) := by
  simp [Ideal.ofBits, Ideal.ieee, -EReal.coe_mul]; norm_num
theorem f32_m2 : Ideal.ofBits .f32 0xC0000000#32 = ((-2 : ℝ) : EReal) := by
  simp [Ideal.ofBits, Ideal.ieee, -EReal.coe_mul, -EReal.coe_neg]; norm_num
theorem f32_8th : Ideal.ofBits .f32 0x3E000000#32 = ((1 / 8 : ℝ) : EReal) := by
  simp [Ideal.ofBits, Ideal.ieee, -EReal.coe_mul]; norm_num
theorem f32_bot : Ideal.ofBits .f32 0xFF800000#32 = (⊥ : EReal) := by
  simp [Ideal.ofBits, Ideal.ieee]
theorem f32_top : Ideal.ofBits .f32 0x7F800000#32 = (⊤ : EReal) := by
  simp [Ideal.ofBits, Ideal.ieee]

/-- A word that holds a number, as a float. -/
theorem sitofp_nat (k : ℕ) (hk : k < 2 ^ 31) : FloatOps.sitofp (F := Ideal) .f32 (BitVec.ofNat 32 k) = ((k : ℝ) : EReal) := by
  show (((BitVec.ofNat 32 k).toInt : ℝ) : EReal) = _
  have : (BitVec.ofNat 32 k).toInt = (k : ℤ) := by
    have h : (BitVec.ofNat 32 k).toNat = k := by rw [BitVec.toNat_ofNat]; omega
    rw [BitVec.toInt_eq_toNat_of_lt (by omega), h]
  rw [this]; norm_cast

/-- The exponential of a multiple of the logarithm is the power. -/
theorem freq (p : ℕ) : Real.exp ((p : ℝ) * (-2 * Real.log 10000 / 64)) = 1 / Real.rpow 10000 (((2 * p : ℕ) : ℝ) / 64) := by
  rw [one_div]
  show _ = ((10000 : ℝ) ^ (((2 * p : ℕ) : ℝ) / 64))⁻¹
  rw [Real.rpow_def_of_pos (by norm_num), ← Real.exp_neg]
  congr 1; push_cast; ring

end Cert.Attn
end
-- ==== Proof.KerValue.lean ====
/- The kernel's values read at an index: the rotary tables, queries, keys and values, a step of the sums, the output. -/
module

public import proofs.«01_k».proof.Proof.Values
public import proofs.«01_k».proof.Proof.Attn

@[expose] public section

noncomputable section

namespace Cert.KernelIdeal.Run

open Cert.KernelIdeal Cert.KernelIdeal.Gen
open Idealize.ShloMosaic Idealize.ShloMosaic.TcCoe

set_option maxRecDepth 16384

/-! ## The tables -/

theorem devW_eq (c : Dev nD) : devW c = BitVec.ofNat 32 c.val := by
  revert c; decide +kernel

/-- The position of row `r` of device `c`. -/
def pos (c : Dev nD) (r : Fin 256) : Fin 8192 := ⟨256 * c.val + r.val, by have : c.val < 32 := c.isLt; omega⟩

theorem row_word (c : Dev nD) (r : Fin 256) : IntOp.addi (Scalar.muli (devW c) 256#32) (BitVec.ofNat 32 r.val) = BitVec.ofNat 32 (pos c r).val := by
  have hc : c.val < 32 := c.isLt
  rw [devW_eq]
  apply BitVec.eq_of_toNat_eq
  show (BitVec.ofNat 32 c.val * 256#32 + BitVec.ofNat 32 r.val).toNat = (BitVec.ofNat 32 (256 * c.val + r.val)).toNat
  simp only [BitVec.toNat_add, BitVec.toNat_mul, BitVec.toNat_ofNat]
  omega

theorem even_apply (r n : Fin 256) : evenT (ix2 r n) = if n.val % 2 = 0 then 1#1 else 0#1 := by
  pointwise [evenT, k0_pay79, colI]
  revert n; decide +kernel

theorem angle_of (w : BitVec 32) (i n : ℕ) (hi : i < 2 ^ 31) (hw : w = BitVec.ofNat 32 (n % 64 / 2)) :
    FloatOps.sitofp (F := Ideal) .f32 (BitVec.ofNat 32 i) * Ideal.exp (FloatOps.sitofp (F := Ideal) .f32 w
        * Ideal.div (Ideal.ofBits .f32 0xC0000000#32 * Scalar.log (F := Ideal) (φ := .f32) (Ideal.ofBits .f32 0x461C4000#32)) (Ideal.ofBits .f32 0x42800000#32))
      = ((Attn.angle i n : ℝ) : EReal) := by
  have hl : Scalar.log (F := Ideal) (φ := .f32) (Ideal.ofBits .f32 0x461C4000#32) = ((Real.log 10000 : ℝ) : EReal) := by
    rw [Attn.f32_10000]
    show Ideal.log ((10000 : ℝ) : EReal) = _
    show (if (10000 : ℝ) ≤ 0 then (⊥ : EReal) else ((Real.log 10000 : ℝ) : EReal)) = _
    rw [if_neg (by norm_num)]
  subst hw
  rw [hl, Attn.f32_m2, Attn.f32_64, Attn.sitofp_nat _ hi, Attn.sitofp_nat _ (by omega), ← EReal.coe_mul, Attn.div_coe _ _ (by norm_num), ← EReal.coe_mul,
    ← EReal.coe_mul, Attn.exp_coe, ← EReal.coe_mul, ← div_eq_mul_inv, Attn.freq]
  rfl

theorem angle_apply (c : Dev nD) (r n : Fin 256) :
    k0_pay76 (F := Ideal) (devW c) rowI wrd64 k0_pay72 k0_pay73 k0_pay74 k0_pay75 (ix2 r n) = ((Attn.angle (pos c r).val n.val : ℝ) : EReal) := by
  pointwise [k0_pay76, rowI, k0_pay72, k0_pay73, k0_pay74, k0_pay75]
  rw [row_word]
  refine angle_of _ _ _ (by have := (pos c r).isLt; omega) ?_
  clear r c
  revert n; decide +kernel

theorem cos_apply (c : Dev nD) (r n : Fin 256) : cosT (F := Ideal) c (ix2 r n) = ((Real.cos (Attn.angle (pos c r).val n.val) : ℝ) : EReal) := by
  show Ideal.cos (k0_pay76 (F := Ideal) (devW c) rowI wrd64 k0_pay72 k0_pay73 k0_pay74 k0_pay75 (ix2 r n)) = _
  rw [angle_apply]; rfl
theorem sin_apply (c : Dev nD) (r n : Fin 256) : sinT (F := Ideal) c (ix2 r n) = ((Real.sin (Attn.angle (pos c r).val n.val) : ℝ) : EReal) := by
  show Ideal.sin (k0_pay76 (F := Ideal) (devW c) rowI wrd64 k0_pay72 k0_pay73 k0_pay74 k0_pay75 (ix2 r n)) = _
  rw [angle_apply]; rfl

/-! ## Queries, keys, values -/

theorem select_even {α : Type} (n : ℕ) (a b : α) : Scalar.select (if n % 2 = 0 then 1#1 else 0#1) a b = if n % 2 = 0 then a else b := by
  by_cases h : n % 2 = 0
  · rw [if_pos h, if_pos h]; rfl
  · rw [if_neg h, if_neg h]; rfl

theorem x0_apply (x : Vec Ideal S2x256x768 .f32) (r : Fin 256) (k : Fin 768) : x0 x (ix3 0 r k) = x (ix3 0 r k) := by
  show x ((Rect.unit (s := S2x256x768) ![0, 0, 0] S1x256x768.size inb_S2x256x768_S1x256x768_0_0_0).toLoadRect.idx (ix3 0 r k)) = _
  pointwise
theorem x1_apply (x : Vec Ideal S2x256x768 .f32) (r : Fin 256) (k : Fin 768) : x1 x (ix3 0 r k) = x (ix3 1 r k) := by
  show x ((Rect.unit (s := S2x256x768) ![1, 0, 0] S1x256x768.size inb_S2x256x768_S1x256x768_1_0_0).toLoadRect.idx (ix3 0 r k)) = _
  pointwise

theorem qT_apply (c : Dev nD) (I : Ins Ideal) (b : Fin 2) (r n : Fin 256) :
    qT c I b (ix3 0 r n) = Attn.rope (Attn.proj I.x I.wq b r) (pos c r).val n * ((1 / 8 : ℝ) : EReal) := by
  rw [← Attn.f32_8th]
  fin_vals b with hb
  · obtain rfl : b = 0 := Fin.ext hb
    show k0_pay80 (F := Ideal) colI (cosT c) (sinT c) wrd2 (x0 I.x) (rq I.wq) (ix3 0 r n) = _
    rw [rq_eq]
    pointwise [k0_pay80, Attn.rope, Attn.proj]
    rw [show k0_pay79 colI wrd2 (ix2 r n) = _ from even_apply r n, select_even, cos_apply, sin_apply]
    simp only [x0_apply, zero_sub]
    rfl
  · obtain rfl : b = 1 := Fin.ext hb
    show k0_pay82 (F := Ideal) (cosT c) (sinT c) evenT (k0_pay81 (x1 I.x)) (rq I.wq) (ix3 0 r n) = _
    rw [rq_eq]
    pointwise [k0_pay82, k0_pay81, Attn.rope, Attn.proj]
    rw [even_apply, select_even, cos_apply, sin_apply]
    simp only [x1_apply, zero_sub]
    rfl

theorem kT_apply (c : Dev nD) (I : Ins Ideal) (b : Fin 2) (r n : Fin 256) :
    kvT c I 0 b (ix5 0 0 0 n r) = Attn.rope (Attn.proj I.x I.wk b r) (pos c r).val n := by
  fin_vals b with hb
  · obtain rfl : b = 0 := Fin.ext hb
    show k0_pay85 (F := Ideal) (k0_pay84 (cosT c) (sinT c) evenT (x0 I.x) (rk I.wk)) (ix5 0 0 0 n r) = _
    rw [rk_eq]
    pointwise [k0_pay85, k0_pay84, k0_pay83, Attn.rope, Attn.proj]
    rw [even_apply, select_even, cos_apply, sin_apply]
    simp only [x0_apply, zero_sub]
    rfl
  · obtain rfl : b = 1 := Fin.ext hb
    show k0_pay88 (F := Ideal) (cosT c) (sinT c) evenT (x1 I.x) (rk I.wk) (ix5 0 0 0 n r) = _
    rw [rk_eq]
    pointwise [k0_pay88, k0_pay87, Attn.rope, Attn.proj]
    rw [even_apply, select_even, cos_apply, sin_apply]
    simp only [x1_apply, zero_sub]
    rfl

theorem vT_apply (c : Dev nD) (I : Ins Ideal) (b : Fin 2) (r n : Fin 256) :
    kvT c I 1 b (ix5 0 0 0 r n) = Attn.proj I.x I.wv b r n := by
  fin_vals b with hb
  · obtain rfl : b = 0 := Fin.ext hb
    show k0_pay86 (F := Ideal) (k0_pay83 (x0 I.x)) (rv I.wv) (ix5 0 0 0 r n) = _
    rw [rv_eq]
    pointwise [k0_pay86, k0_pay83, Attn.proj]
    simp only [x0_apply]
  · obtain rfl : b = 1 := Fin.ext hb
    show k0_pay89 (F := Ideal) (k0_pay87 (x1 I.x)) (rv I.wv) (ix5 0 0 0 r n) = _
    rw [rv_eq]
    pointwise [k0_pay89, k0_pay87, Attn.proj]
    simp only [x1_apply]

/-! ## One pair, one block -/

theorem addL_apply (h : Fin 4) (kt : Vec Ideal S1x1x1x256x256 .bf16) (q : Vec Ideal S1x256x64 .bf16) (l : Vec Ideal S1x256x1 .f32) (r : Fin 256) :
    addL (F := Ideal) h kt q l (ix3 0 r 0)
      = l (ix3 0 r 0) + ∑ j : Fin 256, Ideal.exp (∑ d : Fin 64, q (ix3 0 r d) * kt (ix5 0 0 0 (Attn.feat h d) j)) := by
  pointwise [addL, wts]
  rfl
theorem addA_apply (h : Fin 4) (kt vt : Vec Ideal S1x1x1x256x256 .bf16) (q : Vec Ideal S1x256x64 .bf16) (a : Vec Ideal S1x256x64 .f32) (r : Fin 256) (e : Fin 64) :
    addA (F := Ideal) h kt vt q a (ix3 0 r e)
      = a (ix3 0 r e) + ∑ j : Fin 256, Ideal.exp (∑ d : Fin 64, q (ix3 0 r d) * kt (ix5 0 0 0 (Attn.feat h d) j)) * vt (ix5 0 0 0 j (Attn.feat h e)) := by
  pointwise [addA, wts]
  rfl
theorem qOf_apply (Q : Vec Ideal S2x256x256 .bf16) (i : Fin 8) (r : Fin 256) (d : Fin 64) : qOf Q i (ix3 0 r d) = Q (ix3 (bat i) r (Attn.feat (hd i) d)) := by
  pointwise [qOf]
  rfl
theorem quot_apply (l lx : Vec Ideal S1x256x1 .f32) (a : Vec Ideal S1x256x64 .f32) (ax : Vec Ideal S1x256x64 .bf16) (r : Fin 256) (d : Fin 64) :
    quot (F := Ideal) l lx a ax (ix3 0 r d) = Ideal.div (a (ix3 0 r d) + ax (ix3 0 r d)) (l (ix3 0 r 0) + lx (ix3 0 r 0)) := by
  pointwise [quot, k0_pay161]
theorem out_apply (a : Vec Ideal S1x256x256 .f32) (w : Vec Ideal S256x768 .f32) (r : Fin 256) (o : Fin 768) :
    k0_pay1 (F := Ideal) a w (ix3 0 r o) = ∑ n : Fin 256, a (ix3 0 r n) * w (ix2 n o) := by
  pointwise [k0_pay1]
theorem ctxB_apply (C : Vec Ideal S2x256x256 .f32) (b : Fin 2) (r n : Fin 256) : ctxB C b (ix3 0 r n) = C (ix3 b r n) := by
  fin_vals b with hb
  · obtain rfl : b = 0 := Fin.ext hb
    show C ((Rect.unit (s := S2x256x256) ![0, 0, 0] S1x256x256.size inb_S2x256x256_S1x256x256_0_0_0).toLoadRect.idx (ix3 0 r n)) = _
    pointwise
  · obtain rfl : b = 1 := Fin.ext hb
    show C ((Rect.unit (s := S2x256x256) ![1, 0, 0] S1x256x256.size inb_S2x256x256_S1x256x256_1_0_0).toLoadRect.idx (ix3 0 r n)) = _
    pointwise

theorem zeroL (j : S8x256x1.Idx) : k0_pay90 (F := Ideal) j = 0 := by
  pointwise [k0_pay90]
theorem zeroA (j : S8x256x64.Idx) : k0_pay92 (F := Ideal) j = 0 := by
  pointwise [k0_pay92]
theorem carried (A : Vec Ideal S8x256x64 .f32) (j : S8x256x64.Idx) : k0_pay160 (F := Ideal) A j = A j := by
  pointwise [k0_pay160]

end Cert.KernelIdeal.Run
end
-- ==== Proof.Total.lean ====
/- The sums over the ring are sums over all positions, and a device's output is the attention of its rows. -/
module

public import proofs.«01_k».proof.Proof.KerValue

@[expose] public section

noncomputable section

namespace Cert.KernelIdeal.Run

open Cert.KernelIdeal Cert.KernelIdeal.Gen
open Idealize.ShloMosaic Idealize.ShloMosaic.TcCoe

set_option maxRecDepth 16384

/-! ## Slabs at an index -/

theorem slabL_ix (L : Fin 8 → Vec Ideal S1x256x1 .f32) (i : Fin 8) (r : Fin 256) : slabL L (ix3 i r 0) = L i (ix3 0 r 0) :=
  congrArg (L i) (funext fun a => by fin_cases a <;> rfl)
theorem slabA_ix (L : Fin 8 → Vec Ideal S1x256x64 .f32) (i : Fin 8) (r : Fin 256) (d : Fin 64) : slabA L (ix3 i r d) = L i (ix3 0 r d) :=
  congrArg (L i) (funext fun a => by fin_cases a <;> rfl)
theorem slabQ_ix (L : Fin 2 → Vec Ideal S1x256x256 .bf16) (b : Fin 2) (r n : Fin 256) : slabQ L (ix3 b r n) = L b (ix3 0 r n) :=
  congrArg (L b) (funext fun a => by fin_cases a <;> rfl)
theorem slabO_ix (L : Fin 2 → Vec Ideal S1x256x768 .f32) (b : Fin 2) (r : Fin 256) (o : Fin 768) : slabO L (ix3 b r o) = L b (ix3 0 r o) :=
  congrArg (L b) (funext fun a => by fin_cases a <;> rfl)
theorem rectL_ix (i : Fin 8) (r : Fin 256) : (rectL i).idx (ix3 0 r 0) = ix3 i r 0 := by
  funext a
  apply Fin.ext
  fin_cases a
  · show i.val + 1 * 0 = i.val; omega
  · show 0 + 1 * r.val = r.val; omega
  · rfl
theorem rectA_ix (i : Fin 8) (r : Fin 256) (d : Fin 64) : (rectA i).idx (ix3 0 r d) = ix3 i r d := by
  funext a
  apply Fin.ext
  fin_cases a
  · show i.val + 1 * 0 = i.val; omega
  · show 0 + 1 * r.val = r.val; omega
  · show 0 + 1 * d.val = d.val; omega

/-- The pair of batch `b` and the head of feature `n`. -/
def pairAt (b : Fin 2) (n : Fin 256) : Fin 8 := ⟨4 * b.val + n.val / 64, by omega⟩
theorem bat_pairAt (b : Fin 2) (n : Fin 256) : bat (pairAt b n) = b := Fin.ext (by show (4 * b.val + n.val / 64) / 4 = b.val; omega)
theorem hd_pairAt (b : Fin 2) (n : Fin 256) : hd (pairAt b n) = ⟨n.val / 64, by omega⟩ :=
  Fin.ext (by show (4 * b.val + n.val / 64) % 4 = n.val / 64; omega)
theorem slabC_ix (L : Fin 8 → Vec Ideal S1x256x64 .f32) (b : Fin 2) (r n : Fin 256) :
    slabC L (ix3 b r n) = L (pairAt b n) (ix3 0 r ⟨n.val % 64, Nat.mod_lt _ (by decide)⟩) :=
  congrArg (L (pairAt b n)) (funext fun a => by fin_cases a <;> rfl)

/-! ## A sum over the ring -/

theorem ring_sum (G : Dev nD → EReal) (c : Dev nD) :
    ∑ m ∈ Finset.range 16, G (origin m c) + ∑ m ∈ Finset.range 16, G (origin m (partner c)) = ∑ o : Dev nD, G o := by
  have hp : ∀ m, origin m (partner c) = origin (16 + m) c := fun m => Fin.ext (by
    show ((c.val + 16) % 32 + 31 * m) % 32 = (c.val + 31 * (16 + m)) % 32
    omega)
  simp only [hp]
  rw [← Finset.sum_range_add (f := fun m => G (origin m c)) 16 16, Finset.sum_range]
  refine Function.Bijective.sum_comp (e := fun m : Fin 32 => (origin m.val c : Dev nD)) ?_ G
  refine (Finite.injective_iff_bijective (α := Fin 32)).mp fun a b h => Fin.ext ?_
  have h' : (c.val + 31 * a.val) % 32 = (c.val + 31 * b.val) % 32 := congrArg Fin.val h
  omega

theorem blocks_sum (g : Fin 8192 → EReal) : ∑ o : Dev nD, ∑ j : Fin 256, g (pos o j) = ∑ p : Fin 8192, g p := by
  rw [← Fintype.sum_prod_type' (f := fun (o : Dev nD) (j : Fin 256) => g (pos o j))]
  refine Fintype.sum_equiv (finProdFinEquiv (m := 32) (n := 256)) _ _ fun x => congrArg g (Fin.ext ?_)
  show 256 * x.1.val + x.2.val = x.2.val + 256 * x.1.val
  omega

/-! ## The sums -/

section

variable (I : Dev nD → Ins Ideal)

theorem kts_vKV (o : Dev nD) (b : Fin 2) : kts (vKV I o) b = kvT o (I o) 0 b := tile_slabKV _ _ _
theorem vts_vKV (o : Dev nD) (b : Fin 2) : vts (vKV I o) b = kvT o (I o) 1 b := tile_slabKV _ _ _

theorem sumL_apply (c : Dev nD) (q : Fin 8 → Vec Ideal S1x256x64 .bf16) (i : Fin 8) (r : Fin 256) (k : ℕ) :
    sumL I c q k (ix3 i r 0) = ∑ m ∈ Finset.range k, ∑ j : Fin 256,
      Ideal.exp (∑ d : Fin 64, q i (ix3 0 r d) * kvT (origin m c) (I (origin m c)) 0 (bat i) (ix5 0 0 0 (Attn.feat (hd i) d) j)) := by
  induction k with
  | zero => exact zeroL _
  | succ k ih =>
    rw [Finset.sum_range_succ, ← ih]
    show slabL (F := Ideal) (fun i => addL (hd i) (kts (vKV I (origin k c)) (bat i)) (q i) fun x => sumL I c q k ((rectL i).idx x)) (ix3 i r 0) = _
    rw [slabL_ix, addL_apply, kts_vKV, rectL_ix]

theorem sumA_apply (c : Dev nD) (q : Fin 8 → Vec Ideal S1x256x64 .bf16) (i : Fin 8) (r : Fin 256) (e : Fin 64) (k : ℕ) :
    sumA I c q k (ix3 i r e) = ∑ m ∈ Finset.range k, ∑ j : Fin 256,
      Ideal.exp (∑ d : Fin 64, q i (ix3 0 r d) * kvT (origin m c) (I (origin m c)) 0 (bat i) (ix5 0 0 0 (Attn.feat (hd i) d) j))
        * kvT (origin m c) (I (origin m c)) 1 (bat i) (ix5 0 0 0 j (Attn.feat (hd i) e)) := by
  induction k with
  | zero => exact zeroA _
  | succ k ih =>
    rw [Finset.sum_range_succ, ← ih]
    show slabA (F := Ideal) (e := .f32) (fun i => addA (hd i) (kts (vKV I (origin k c)) (bat i)) (vts (vKV I (origin k c)) (bat i)) (q i)
      fun x => sumA I c q k ((rectA i).idx x)) (ix3 i r e) = _
    rw [slabA_ix, addA_apply, kts_vKV, vts_vKV, rectA_ix]

end

/-! ## The whole arrays -/

/-- The devices' inputs are the blocks of one array of rows, and the same weights. -/
structure Cut (I : Dev nD → Ins Ideal) (X : FVec Ideal ⟨3, ![2, 8192, 768]⟩ .f32) (wq wk wv : FVec Ideal ⟨2, ![768, 256]⟩ .f32)
    (wo : FVec Ideal ⟨2, ![256, 768]⟩ .f32) : Prop where
  x : ∀ c b r k, (I c).x (ix3 b r k) = X (ix3 b (pos c r) k)
  q : ∀ c, (I c).wq = wq
  k : ∀ c, (I c).wk = wk
  v : ∀ c, (I c).wv = wv
  o : ∀ c, (I c).wo = wo

section

variable {I : Dev nD → Ins Ideal} {X : FVec Ideal ⟨3, ![2, 8192, 768]⟩ .f32} {wq wk wv : FVec Ideal ⟨2, ![768, 256]⟩ .f32}
  {wo : FVec Ideal ⟨2, ![256, 768]⟩ .f32} (h : Cut I X wq wk wv wo)

include h

theorem proj_cut (w : FVec Ideal ⟨2, ![768, 256]⟩ .f32) (c : Dev nD) (b : Fin 2) (r : Fin 256) :
    Attn.proj (N := 256) (I c).x w b r = Attn.proj X w b (pos c r) :=
  funext fun n => Finset.sum_congr rfl fun k _ => by rw [h.x]

theorem query_cut (c : Dev nD) (i : Fin 8) (r : Fin 256) (d : Fin 64) :
    qOf (vQ I c) i (ix3 0 r d)
      = Attn.rope (Attn.proj X wq (bat i) (pos c r)) (pos c r).val (Attn.feat (hd i) d) * ((1 / 8 : ℝ) : EReal) := by
  rw [qOf_apply, vQ, slabQ_ix, qT_apply, h.q, proj_cut h]

theorem exp_cut (c o : Dev nD) (i : Fin 8) (r j : Fin 256) :
    Ideal.exp (∑ d : Fin 64, qOf (vQ I c) i (ix3 0 r d) * kvT o (I o) 0 (bat i) (ix5 0 0 0 (Attn.feat (hd i) d) j))
      = Ideal.exp (Attn.scores X wq wk (bat i) (pos c r) (hd i) (pos o j)) := by
  unfold Attn.scores
  rw [← Attn.score_scaled]
  refine congrArg Ideal.exp (Finset.sum_congr rfl fun d _ => ?_)
  rw [query_cut h, kT_apply, h.k, proj_cut h]

theorem total_L (c : Dev nD) (i : Fin 8) (r : Fin 256) :
    ownL I c (ix3 i r 0) + forL I (partner c) (ix3 i r 0) = ∑ p : Fin 8192, Ideal.exp (Attn.scores X wq wk (bat i) (pos c r) (hd i) p) := by
  unfold ownL forL
  rw [sumL_apply, sumL_apply, partner_partner]
  simp only [exp_cut h]
  rw [ring_sum (fun o => ∑ j : Fin 256, Ideal.exp (Attn.scores X wq wk (bat i) (pos c r) (hd i) (pos o j))) c]
  exact blocks_sum fun p => Ideal.exp (Attn.scores X wq wk (bat i) (pos c r) (hd i) p)

theorem total_A (c : Dev nD) (i : Fin 8) (r : Fin 256) (e : Fin 64) :
    ownA I c (ix3 i r e) + forA I (partner c) (ix3 i r e)
      = ∑ p : Fin 8192, Ideal.exp (Attn.scores X wq wk (bat i) (pos c r) (hd i) p) * Attn.proj X wv (bat i) p (Attn.feat (hd i) e) := by
  unfold ownA forA
  rw [sumA_apply, sumA_apply, partner_partner]
  simp only [exp_cut h, vT_apply, h.v, proj_cut h]
  rw [ring_sum (fun o => ∑ j : Fin 256, Ideal.exp (Attn.scores X wq wk (bat i) (pos c r) (hd i) (pos o j))
    * Attn.proj X wv (bat i) (pos o j) (Attn.feat (hd i) e)) c]
  exact blocks_sum fun p => Ideal.exp (Attn.scores X wq wk (bat i) (pos c r) (hd i) p) * Attn.proj X wv (bat i) p (Attn.feat (hd i) e)

theorem ctx_cut (c : Dev nD) (b : Fin 2) (r n : Fin 256) : vCtx I c (ix3 b r n) = Attn.attend X wq wk wv b (pos c r) n := by
  have hn : Attn.feat ⟨n.val / 64, by omega⟩ ⟨n.val % 64, Nat.mod_lt _ (by decide)⟩ = n :=
    Fin.ext (by show 64 * (n.val / 64) + n.val % 64 = n.val; omega)
  rw [vCtx, slabC_ix, ctxP, quot_apply, rectA_ix, rectL_ix]
  rw [show (vals I).AX (partner c) (ix3 (pairAt b n) r ⟨n.val % 64, Nat.mod_lt _ (by decide)⟩)
    = forA I (partner c) (ix3 (pairAt b n) r ⟨n.val % 64, Nat.mod_lt _ (by decide)⟩) from carried _ _]
  rw [total_L h, total_A h, bat_pairAt, hd_pairAt, hn]
  rfl

/-- A device's output is the attention of its rows, projected. -/
theorem out_cut (c : Dev nD) (b : Fin 2) (r : Fin 256) (o : Fin 768) :
    vOut I c (ix3 b r o) = ∑ n : Fin 256, Attn.attend X wq wk wv b (pos c r) n * wo (ix2 n o) := by
  rw [vOut, slabO_ix, out_apply, ro_eq, h.o]
  exact Finset.sum_congr rfl fun n _ => by rw [ctxB_apply, ctx_cut h]

end

end Cert.KernelIdeal.Run
end
-- ==== Proof.Ends.lean ====
/- What the kernel starts from and what it leaves, over whole arrays: a window of one block is its array, so the run
   ends with the result buffer holding `vOut`; and what the precondition says of the arguments. -/
module

public import proofs.«01_k».proof.Defs
public import proofs.«01_k».proof.Proof.Run
public import proofs.«01_k».proof.Proof.Total
public import Idealize.ShloMosaic.Lib.ReduceAll
public import Idealize.ShloMosaic.Lib.Pointwise

@[expose] public section

noncomputable section

namespace Cert.KernelIdeal.Run

open Cert.KernelIdeal Cert.KernelIdeal.Gen
open Idealize.ShloMosaic Idealize.ShloMosaic.TcCoe

/-! ## Whole arrays -/

section Whole

variable {F : FTy → Type} [FloatOps F] (m : (ℓ : Loc nD τ sig) → Buf (Elt F) ℓ) (ρ : Dev nD → PrngReg)

theorem ins_x (c : Dev nD) : (ins m c).x = m ((c : Thread nD τ).loc main_arg0) := by
  funext i
  exact congrArg (m ((c : Thread nD τ).loc main_arg0))
    (funext fun a => Fin.ext (Pipeline.Window.rect_emb_val_of_index_zero win0_0 (0 : Fin 1) a rfl i))
theorem ins_q (c : Dev nD) : (ins m c).wq = m ((c : Thread nD τ).loc main_arg1) := by
  funext i
  exact congrArg (m ((c : Thread nD τ).loc main_arg1))
    (funext fun a => Fin.ext (Pipeline.Window.rect_emb_val_of_index_zero win0_1 (0 : Fin 1) a rfl i))
theorem ins_k (c : Dev nD) : (ins m c).wk = m ((c : Thread nD τ).loc main_arg2) := by
  funext i
  exact congrArg (m ((c : Thread nD τ).loc main_arg2))
    (funext fun a => Fin.ext (Pipeline.Window.rect_emb_val_of_index_zero win0_2 (0 : Fin 1) a rfl i))
theorem ins_v (c : Dev nD) : (ins m c).wv = m ((c : Thread nD τ).loc main_arg3) := by
  funext i
  exact congrArg (m ((c : Thread nD τ).loc main_arg3))
    (funext fun a => Fin.ext (Pipeline.Window.rect_emb_val_of_index_zero win0_3 (0 : Fin 1) a rfl i))
theorem ins_o (c : Dev nD) : (ins m c).wo = m ((c : Thread nD τ).loc main_arg4) := by
  funext i
  exact congrArg (m ((c : Thread nD τ).loc main_arg4))
    (funext fun a => Fin.ext (Pipeline.Window.rect_emb_val_of_index_zero win0_4 (0 : Fin 1) a rfl i))

/-- The result buffer ends holding the output block. -/
theorem final_out (c : Dev nD) : finalA m ρ c 5 = vOut (ins m) c := by
  funext i
  have h := (dats m ρ 0 c).arrAt_emb_eq_flushed (5 : Fin 6)
    (fun t t' _ _ hne => absurd (Subsingleton.elim (α := Fin 1) t t') hne) (0 : Fin 1) (by decide +kernel) i
  have e : (win0_5.blk (0 : Fin 1)).view.emb i = i :=
    funext fun a => Fin.ext (Pipeline.Window.rect_emb_val_of_index_zero win0_5 (0 : Fin 1) a rfl i)
  exact (congrArg (finalA m ρ c 5) e.symm).trans h

end Whole

/-! ## The precondition -/

/-- The side conditions of the precondition. -/
theorem pre_facts : Cert.Pre_finite_KernelIdeal.Facts where
  bcast_S_S2x256x768 := by decide
  reducesTo_S2x256x768_S_d0_1_2 := by decide
  h_S_ := by decide
  bcast_S_S768x256 := by decide
  reducesTo_S768x256_S_d0_1 := by decide

/-- And those of the same precondition over the whole arrays. -/
theorem pre_facts_ref : Cert.Pre_finite_ReferenceIdeal.Facts where
  bcast_S_S2x8192x768 := by decide
  reducesTo_S2x8192x768_S_d0_1_2 := by decide
  h_S_ := by decide
  bcast_S_S768x256 := by decide
  reducesTo_S768x256_S_d0_1 := by decide

/-- Below infinity in absolute value is real. -/
theorem real_of_lt (x : EReal) (h : max x (-x) < ⊤) : Attn.IsReal x := by
  induction x using EReal.rec with
  | bot => simp at h
  | top => simp at h
  | coe r => exact ⟨r, rfl⟩

/-- The compared bit, read back. -/
theorem real_of_bit {s : Shape} (v w : FVec Ideal s .f32) (i : s.Idx) (hw : w i = (⊤ : EReal))
    (h : cmpf .olt (Host.absf v) w i = 1#1) : Attn.IsReal (v i : EReal) := by
  have h' : Ideal.cmp .olt (max (v i : EReal) (-(v i : EReal))) (w i : EReal) = 1 := h
  rw [hw] at h'
  exact real_of_lt _ ((Ideal.cmp_olt_eq_one _ _).1 h')

/-- The precondition of one device's blocks: its part of `x`, and the two weights the scores are made of, are real. -/
theorem pre_real (x : FVec Ideal ⟨3, ![2, 256, 768]⟩ .f32) (wq wk wv : FVec Ideal ⟨2, ![768, 256]⟩ .f32) (wo : FVec Ideal ⟨2, ![256, 768]⟩ .f32)
    (h : @Cert.Pre_finite_KernelIdeal.fn pre_facts Ideal _ x wq wk wv wo = fun _ => 1#1) :
    (∀ i, Attn.IsReal (x i : EReal)) ∧ (∀ i, Attn.IsReal (wq i : EReal)) ∧ ∀ i, Attn.IsReal (wk i : EReal) := by
  haveI := pre_facts
  haveI : Subsingleton (⟨0, ![]⟩ : Shape).Idx := ⟨fun a b => funext fun i => i.elim0⟩
  have h0 := congrFun h ix0
  obtain ⟨h1, hk⟩ := IntOp.andi_eq_one.1 h0
  obtain ⟨hx, hq⟩ := IntOp.andi_eq_one.1 h1
  exact ⟨fun i => real_of_bit x _ i Attn.f32_top (Host.reduce_andi_all _ _ _ _ _ hx i),
    fun i => real_of_bit wq _ i Attn.f32_top (Host.reduce_andi_all _ _ _ _ _ hq i),
    fun i => real_of_bit wk _ i Attn.f32_top (Host.reduce_andi_all _ _ _ _ _ hk i)⟩

end Cert.KernelIdeal.Run
end
-- ==== Proof.RefValue.lean ====
/- The reference's result read at an index: the projections, the rotation, the scores, the weights, the context, the output. -/
module

public import proofs.«01_k».proof.Proof.Gen.ReferenceIdeal.Run
public import proofs.«01_k».proof.Proof.Attn

@[expose] public section

noncomputable section

namespace Cert.ReferenceIdeal.Value

open Cert.ReferenceIdeal Cert.ReferenceIdeal.Gen
open Idealize.ShloMosaic Idealize.ShloMosaic.TcCoe

/-- The frequencies of the 32 pairs of features. -/
def rInv : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (sitofp .f32 (addi (broadcastInDim S32 ![] bcast_S_S32 (constantI S_ 32 0#32))
          (muli (broadcastInDim S32 ![] bcast_S_S32 (constantI S_ 32 2#32)) (iotaInDim S32 32 0))))
        (broadcastInDim S32 ![] bcast_S_S32 (constant S_ .f32 0x42800000#32))))
/-- The angles. -/
def rAng : FVec Ideal S8192x32 .f32 :=
  mulf (broadcastInDim S8192x32 ![0, 1] bcast_S8192x1_S8192x32_0_1 (sitofp .f32 (broadcastInDim S8192x1 ![0] bcast_S8192_S8192x1_0 (iotaInDim S8192 32 0))))
    (broadcastInDim S8192x32 ![0, 1] bcast_S1x32_S8192x32_0_1 (broadcastInDim S1x32 ![1] bcast_S32_S1x32_1 rInv))
/-- A table over the angles, each entry twice. -/
def rTab (t : FVec Ideal S8192x32 .f32) : FVec Ideal S8192x64 .f32 :=
  shapeCast S8192x64 (broadcastInDim S8192x32x2 ![0, 1] bcast_S8192x32_S8192x32x2_0_1 t) shapeCasts_S8192x32x2_S8192x64
/-- The table at every batch and head. -/
def rWide (t : FVec Ideal S8192x64 .f32) : FVec Ideal S2x8192x4x64 .f32 :=
  broadcastInDim S2x8192x4x64 ![0, 1, 2, 3] bcast_S1x8192x1x64_S2x8192x4x64_0_1_2_3
    (broadcastInDim S1x8192x1x64 ![1, 3] bcast_S8192x64_S1x8192x1x64_1_3 t)
/-- A projection, cut into heads. -/
def rProj (x : FVec Ideal S2x8192x768 .f32) (w : FVec Ideal S768x256 .f32) : FVec Ideal S2x8192x4x64 .f32 :=
  shapeCast S2x8192x4x64 (Host.dotGeneral dot_S2x8192x768_S768x256_S2x8192x256_2_0_01_1_n_n none x w) shapeCasts_S2x8192x256_S2x8192x4x64
/-- The pairs of features, the first and the second negated exchanged. -/
def rSwap (t : FVec Ideal S2x8192x4x64 .f32) : FVec Ideal S2x8192x4x64 .f32 :=
  shapeCast S2x8192x4x64
    (concatenate S2x8192x4x32x2 4
      [⟨S2x8192x4x32x1, broadcastInDim S2x8192x4x32x1 ![0, 1, 2, 3] bcast_S2x8192x4x32_S2x8192x4x32x1_0_1_2_3
          (Host.negf (shapeCast S2x8192x4x32 (extractStridedSlice S2x8192x4x32x1 ![0, 0, 0, 0, 1]
            (shapeCast S2x8192x4x32x2 t shapeCasts_S2x8192x4x64_S2x8192x4x32x2) slices_S2x8192x4x32x2_S2x8192x4x32x1_0_0_0_0_1)
            shapeCasts_S2x8192x4x32x1_S2x8192x4x32))⟩,
        ⟨S2x8192x4x32x1, broadcastInDim S2x8192x4x32x1 ![0, 1, 2, 3] bcast_S2x8192x4x32_S2x8192x4x32x1_0_1_2_3
          (shapeCast S2x8192x4x32 (extractStridedSlice S2x8192x4x32x1 ![0, 0, 0, 0, 0]
            (shapeCast S2x8192x4x32x2 t shapeCasts_S2x8192x4x64_S2x8192x4x32x2) slices_S2x8192x4x32x2_S2x8192x4x32x1_0_0_0_0_0)
            shapeCasts_S2x8192x4x32x1_S2x8192x4x32)⟩]
      concatenates_S2x8192x4x32x1_S2x8192x4x32x1_S2x8192x4x32x2_d4)
    shapeCasts_S2x8192x4x32x2_S2x8192x4x64
/-- The rotation. -/
def rRope (t : FVec Ideal S2x8192x4x64 .f32) : FVec Ideal S2x8192x4x64 .f32 :=
  addf (mulf t (rWide (rTab (Host.cos rAng)))) (mulf (rSwap t) (rWide (rTab (Host.sin rAng))))
/-- The scores. -/
def rScore (q k : FVec Ideal S2x8192x4x64 .f32) : FVec Ideal S2x4x8192x8192 .f32 :=
  mulf (Host.dotGeneral dot_S2x8192x4x64_S2x8192x4x64_S2x4x8192x8192_3_3_1_1_02_02 none q k)
    (broadcastInDim S2x4x8192x8192 ![] bcast_S_S2x4x8192x8192 (constant S_ .f32 0x3E000000#32))
/-- A value a row, at every column. -/
def rRow (t : FVec Ideal S2x4x8192 .f32) : FVec Ideal S2x4x8192x8192 .f32 :=
  broadcastInDim S2x4x8192x8192 ![0, 1, 2, 3] bcast_S2x4x8192x1_S2x4x8192x8192_0_1_2_3
    (broadcastInDim S2x4x8192x1 ![0, 1, 2] bcast_S2x4x8192_S2x4x8192x1_0_1_2 t)
def rMax (s : FVec Ideal S2x4x8192x8192 .f32) : FVec Ideal S2x4x8192 .f32 :=
  Host.reduce FloatOps.maximumf s (constant S_ .f32 0xFF800000#32) reducesTo_S2x4x8192x8192_S2x4x8192_d3 h_S_
def rExp (s : FVec Ideal S2x4x8192x8192 .f32) : FVec Ideal S2x4x8192x8192 .f32 := Host.exp (subf s (rRow (rMax s)))
/-- The weights. -/
def rWts (e : FVec Ideal S2x4x8192x8192 .f32) : FVec Ideal S2x4x8192x8192 .f32 :=
  Host.divf e (rRow (Host.reduceAdd e (constant S_ .f32 0x00000000#32) reducesTo_S2x4x8192x8192_S2x4x8192_d3 h_S_))
/-- The context. -/
def rCtx (v : FVec Ideal S2x8192x4x64 .f32) (w : FVec Ideal S2x4x8192x8192 .f32) : FVec Ideal S2x8192x256 .f32 :=
  shapeCast S2x8192x256 (transpose S2x8192x4x64 [0, 3, 1, 2]
    (Host.dotGeneral dot_S2x8192x4x64_S2x4x8192x8192_S2x4x64x8192_1_3_3_2_02_01 none v w) transposes_S2x4x64x8192_S2x8192x4x64_0_3_1_2)
    shapeCasts_S2x8192x4x64_S2x8192x256
def rOut (c : FVec Ideal S2x8192x256 .f32) (w : FVec Ideal S256x768 .f32) : FVec Ideal S2x8192x768 .f32 :=
  Host.dotGeneral dot_S2x8192x256_S256x768_S2x8192x768_2_0_01_1_n_n none c w

/-- The reference, in stages. -/
def rAll (x : FVec Ideal S2x8192x768 .f32) (wq wk wv : FVec Ideal S768x256 .f32) (wo : FVec Ideal S256x768 .f32) : FVec Ideal S2x8192x768 .f32 :=
  rOut (rCtx (rProj x wv) (rWts (rExp (rScore (rRope (rProj x wq)) (rRope (rProj x wk)))))) wo

theorem res_eq (m : (ℓ : Loc nD τ sig) → Buf (Elt Ideal) ℓ) (c : Dev nD) :
    res_main_v80 (F := Ideal) m c = rAll (m (c.tc.loc main_arg0)) (m (c.tc.loc main_arg1)) (m (c.tc.loc main_arg2)) (m (c.tc.loc main_arg3))
      (m (c.tc.loc main_arg4)) := by
  unfold res_main_v80
  rfl

/-! ## Read at an index -/

set_option maxRecDepth 16384

theorem rInv_apply (p : Fin 32) : rInv (ix1 p) = ((1 / Real.rpow 10000 (((2 * p.val : ℕ) : ℝ) / 64) : ℝ) : EReal) := by
  have hw : IntOp.addi (0#32) (IntOp.muli (2#32) (BitVec.ofNat 32 p.val)) = BitVec.ofNat 32 (2 * p.val) := by
    revert p; decide
  have hpos : Real.rpow 10000 (((2 * p.val : ℕ) : ℝ) / 64) ≠ 0 := (Real.rpow_pos_of_pos (by norm_num) _).ne'
  pointwise [rInv]
  rw [hw, Attn.sitofp_nat _ (by omega), Attn.f32_64, Attn.f32_10000, Attn.div_coe _ _ (by norm_num), ← EReal.coe_mul]
  show Ideal.div 1 ((Real.rpow 10000 (((2 * p.val : ℕ) : ℝ) * (64 : ℝ)⁻¹) : ℝ) : EReal) = _
  rw [← div_eq_mul_inv, Attn.div_coe _ _ hpos, one_mul, one_div]

theorem rAng_apply (i : Fin 8192) (p : Fin 32) :
    rAng (ix2 i p) = (((i.val : ℝ) * (1 / Real.rpow 10000 (((2 * p.val : ℕ) : ℝ) / 64)) : ℝ) : EReal) := by
  pointwise [rAng]
  rw [rInv_apply, Attn.sitofp_nat _ (by omega), ← EReal.coe_mul]

theorem rTab_apply (t : FVec Ideal S8192x32 .f32) (i : Fin 8192) (d : Fin 64) : rTab t (ix2 i d) = t (ix2 i ⟨d.val / 2, by omega⟩) := by
  pointwise [rTab]
theorem rWide_apply (t : FVec Ideal S8192x64 .f32) (b : Fin 2) (i : Fin 8192) (h : Fin 4) (d : Fin 64) : rWide t (ix4 b i h d) = t (ix2 i d) := by
  pointwise [rWide]
theorem rProj_apply (x : FVec Ideal S2x8192x768 .f32) (w : FVec Ideal S768x256 .f32) (b : Fin 2) (i : Fin 8192) (h : Fin 4) (d : Fin 64) :
    rProj x w (ix4 b i h d) = Attn.proj x w b i (Attn.feat h d) := by
  pointwise [rProj, Attn.proj]
  refine Finset.sum_congr rfl fun k _ => ?_
  refine congrArg (fun n => x (ix3 b i k) * w (ix2 k n)) (Fin.ext ?_)
  show h.val * 64 + d.val = 64 * h.val + d.val
  omega
theorem rSwap_apply (t : FVec Ideal S2x8192x4x64 .f32) (b : Fin 2) (i : Fin 8192) (h : Fin 4) (d : Fin 64) :
    rSwap t (ix4 b i h d) = if h1 : d.val % 2 < 1 then -t (ix4 b i h ⟨d.val / 2 * 2 + 1, by omega⟩) else t (ix4 b i h ⟨d.val / 2 * 2, by omega⟩) := by
  pointwise [rSwap]

theorem rRope_apply (x : FVec Ideal S2x8192x768 .f32) (w : FVec Ideal S768x256 .f32) (b : Fin 2) (i : Fin 8192) (h : Fin 4) (d : Fin 64) :
    rRope (rProj x w) (ix4 b i h d) = Attn.rope (Attn.proj x w b i) i.val (Attn.feat h d) := by
  have ha : rAng (ix2 i ⟨d.val / 2, by omega⟩) = ((Attn.angle i.val (Attn.feat h d).val : ℝ) : EReal) := by
    rw [rAng_apply]
    have : (Attn.feat h d).val % 64 / 2 = d.val / 2 := by show (64 * h.val + d.val) % 64 / 2 = _; omega
    unfold Attn.angle
    rw [this]
  have hc : rTab (Host.cos rAng) (ix2 i d) = ((Real.cos (Attn.angle i.val (Attn.feat h d).val) : ℝ) : EReal) := by
    rw [rTab_apply]
    show Ideal.cos (rAng (ix2 i ⟨d.val / 2, _⟩)) = _
    rw [ha]; rfl
  have hs : rTab (Host.sin rAng) (ix2 i d) = ((Real.sin (Attn.angle i.val (Attn.feat h d).val) : ℝ) : EReal) := by
    rw [rTab_apply]
    show Ideal.sin (rAng (ix2 i ⟨d.val / 2, _⟩)) = _
    rw [ha]; rfl
  have hsw : rSwap (rProj x w) (ix4 b i h d)
      = if (Attn.feat h d).val % 2 = 0 then -Attn.proj x w b i (Attn.next (Attn.feat h d)) else Attn.proj x w b i (Attn.prev (Attn.feat h d)) := by
    have hp : (Attn.feat h d).val % 2 = d.val % 2 := by show (64 * h.val + d.val) % 2 = _; omega
    rw [rSwap_apply, hp]
    by_cases h1 : d.val % 2 < 1
    · rw [dif_pos h1, if_pos (by omega), rProj_apply]
      refine congrArg (fun n => -Attn.proj x w b i n) (Fin.ext ?_)
      show 64 * h.val + (d.val / 2 * 2 + 1) = (64 * h.val + d.val + 256 - 255) % 256
      omega
    · rw [dif_neg h1, if_neg (by omega), rProj_apply]
      refine congrArg (fun n => Attn.proj x w b i n) (Fin.ext ?_)
      show 64 * h.val + d.val / 2 * 2 = (64 * h.val + d.val + 256 - 1) % 256
      omega
  show rProj x w (ix4 b i h d) * rWide (rTab (Host.cos rAng)) (ix4 b i h d) + rSwap (rProj x w) (ix4 b i h d) * rWide (rTab (Host.sin rAng)) (ix4 b i h d) = _
  rw [rWide_apply, rWide_apply, hc, hs, hsw, rProj_apply]
  rfl

theorem rScore_apply (q k : FVec Ideal S2x8192x4x64 .f32) (b : Fin 2) (h : Fin 4) (i j : Fin 8192) :
    rScore q k (ix4 b h i j) = (∑ d, q (ix4 b i h d) * k (ix4 b j h d)) * ((1 / 8 : ℝ) : EReal) := by
  rw [← Attn.f32_8th]
  pointwise [rScore]
theorem rRow_apply (t : FVec Ideal S2x4x8192 .f32) (b : Fin 2) (h : Fin 4) (i j : Fin 8192) : rRow t (ix4 b h i j) = t (ix3 b h i) := by
  pointwise [rRow]
theorem rMax_apply (t : FVec Ideal S2x4x8192x8192 .f32) (b : Fin 2) (h : Fin 4) (i : Fin 8192) :
    rMax t (ix3 b h i) = Finset.fold max (⊥ : EReal) (fun j : Fin 8192 => t (ix4 b h i j)) Finset.univ := by
  rw [← Attn.f32_bot]
  pointwise [rMax]
theorem rExp_apply (t : FVec Ideal S2x4x8192x8192 .f32) (b : Fin 2) (h : Fin 4) (i j : Fin 8192) :
    rExp t (ix4 b h i j) = Ideal.exp (t (ix4 b h i j) - Finset.fold max (⊥ : EReal) (fun j : Fin 8192 => t (ix4 b h i j)) Finset.univ) := by
  rw [← rMax_apply, ← rRow_apply (rMax t) b h i j]
  rfl
theorem rSum_apply (t : FVec Ideal S2x4x8192x8192 .f32) (b : Fin 2) (h : Fin 4) (i : Fin 8192) :
    Host.reduceAdd t (constant S_ .f32 0x00000000#32) reducesTo_S2x4x8192x8192_S2x4x8192_d3 h_S_ (ix3 b h i) = ∑ j : Fin 8192, t (ix4 b h i j) := by
  pointwise
theorem rWts_apply (t : FVec Ideal S2x4x8192x8192 .f32) (b : Fin 2) (h : Fin 4) (i j : Fin 8192) :
    rWts t (ix4 b h i j) = Ideal.div (t (ix4 b h i j)) (∑ k : Fin 8192, t (ix4 b h i k)) := by
  show Ideal.div (t (ix4 b h i j))
    (rRow (Host.reduceAdd t (constant S_ .f32 0x00000000#32) reducesTo_S2x4x8192x8192_S2x4x8192_d3 h_S_) (ix4 b h i j)) = _
  rw [rRow_apply, rSum_apply]
theorem rCtx_apply (v : FVec Ideal S2x8192x4x64 .f32) (t : FVec Ideal S2x4x8192x8192 .f32) (b : Fin 2) (i : Fin 8192) (n : Fin 256) :
    rCtx v t (ix3 b i n) = ∑ j : Fin 8192, v (ix4 b j ⟨n.val / 64, by omega⟩ ⟨n.val % 64, by omega⟩) * t (ix4 b ⟨n.val / 64, by omega⟩ i j) := by
  pointwise [rCtx]
theorem rOut_apply (c : FVec Ideal S2x8192x256 .f32) (w : FVec Ideal S256x768 .f32) (b : Fin 2) (i : Fin 8192) (o : Fin 768) :
    rOut c w (ix3 b i o) = ∑ n : Fin 256, c (ix3 b i n) * w (ix2 n o) := by
  pointwise [rOut]

/-- The reference's result. -/
theorem rAll_apply (x : FVec Ideal S2x8192x768 .f32) (wq wk wv : FVec Ideal S768x256 .f32) (wo : FVec Ideal S256x768 .f32)
    (hx : ∀ i, Attn.IsReal (x i)) (hq : ∀ i, Attn.IsReal (wq i)) (hk : ∀ i, Attn.IsReal (wk i)) (b : Fin 2) (i : Fin 8192) (o : Fin 768) :
    rAll x wq wk wv wo (ix3 b i o) = ∑ n : Fin 256, Attn.attend x wq wk wv b i n * wo (ix2 n o) := by
  unfold rAll
  rw [rOut_apply]
  refine Finset.sum_congr rfl fun n _ => congrArg (· * wo (ix2 n o)) ?_
  have hs : ∀ j, rScore (rRope (rProj x wq)) (rRope (rProj x wk)) (ix4 b ⟨n.val / 64, by omega⟩ i j)
      = Attn.scores x wq wk b i ⟨n.val / 64, by omega⟩ j := fun j => by
    rw [rScore_apply]
    unfold Attn.scores Attn.score
    refine congrArg (· * ((1 / 8 : ℝ) : EReal)) (Finset.sum_congr rfl fun d _ => ?_)
    rw [rRope_apply, rRope_apply]
  have hv : ∀ j, rProj x wv (ix4 b j ⟨n.val / 64, by omega⟩ ⟨n.val % 64, by omega⟩) = Attn.proj x wv b j n := fun j => by
    rw [rProj_apply]
    refine congrArg (Attn.proj x wv b j) (Fin.ext ?_)
    show 64 * (n.val / 64) + n.val % 64 = n.val
    omega
  rw [rCtx_apply]
  simp only [rWts_apply, rExp_apply, hs, hv]
  exact (Attn.softmax (n := 8191) _ (fun j => Attn.scores_fin x wq wk hx hq hk b i _ j) _).symm

end Cert.ReferenceIdeal.Value
end
-- ==== Proof.Equal.lean ====
/- The kernel computes the reference's blocks: with `x`, `Wq` and `Wk` real, what every device leaves is its part, along
   the sequence, of the reference's result. -/
module

public import proofs.«01_k».proof.Proof.Ends
public import proofs.«01_k».proof.Proof.RefValue

@[expose] public section

noncomputable section

namespace Cert.Equal

open Idealize.ShloMosaic Idealize.ShloMosaic.TcCoe
open Cert.KernelIdeal.Run (pos)

/-- The positions of all devices, over the whole sequence. -/
theorem pos_surj (p : Fin 8192) : ∃ (c : Dev Cert.KernelIdeal.nD) (r : Fin 256), pos c r = p :=
  ⟨⟨p.val / 256, by have := p.isLt; show p.val / 256 < 32; omega⟩, ⟨p.val % 256, by omega⟩,
    Fin.ext (by show 256 * (p.val / 256) + p.val % 256 = p.val; omega)⟩

/-- An element of device `c`'s block of an array cut along the sequence. -/
theorem block_at {α : Type} (h : Layout.Tiles ⟨3, ![2, 256, 768]⟩ ⟨3, ![2, 8192, 768]⟩ 1 32) (c : Fin 32)
    (v : (⟨3, ![2, 8192, 768]⟩ : Shape).Idx → α) (b : Fin 2) (r : Fin 256) (k : Fin 768) :
    Layout.block ⟨3, ![2, 256, 768]⟩ ⟨3, ![2, 8192, 768]⟩ 1 32 c v h (ix3 b r k) = v (ix3 b (pos c r) k) := by
  rw [Layout.block_apply]
  refine congrArg v (funext fun a => Fin.ext ?_)
  rw [Layout.Tiles.idx_val]
  match a with
  | 0 => rfl
  | 1 => show c.val * 256 + r.val = 256 * c.val + r.val; omega
  | 2 => rfl

/-- The kernel's run, with its result named. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1)
            = Cert.KernelIdeal.Run.vOut (Cert.KernelIdeal.Run.ins m) c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun _ h c =>
    ⟨(h.1 c 5).trans (Cert.KernelIdeal.Run.final_out m g c),
      (h.1 c 0).trans ((Cert.KernelIdeal.Run.dats m g 0 c).arrAt_in (0 : Fin 6) rfl _),
      (h.1 c 1).trans ((Cert.KernelIdeal.Run.dats m g 0 c).arrAt_in (1 : Fin 6) rfl _),
      (h.1 c 2).trans ((Cert.KernelIdeal.Run.dats m g 0 c).arrAt_in (2 : Fin 6) rfl _),
      (h.1 c 3).trans ((Cert.KernelIdeal.Run.dats m g 0 c).arrAt_in (3 : Fin 6) rfl _),
      (h.1 c 4).trans ((Cert.KernelIdeal.Run.dats m g 0 c).arrAt_in (4 : Fin 6) rfl _)⟩)
    (Cert.KernelIdeal.Run.run_main m g)

/-- What a device leaves is its block of the reference's result. -/
theorem out_block (m : (ℓ : Loc Cert.KernelIdeal.nD Cert.KernelIdeal.τ Cert.KernelIdeal.sig) → Buf (Elt Ideal) ℓ)
    (X : FVec Ideal ⟨3, ![2, 8192, 768]⟩ .f32) (wq wk wv : FVec Ideal ⟨2, ![768, 256]⟩ .f32) (wo : FVec Ideal ⟨2, ![256, 768]⟩ .f32)
    (hL : Layout.Tiles ⟨3, ![2, 256, 768]⟩ ⟨3, ![2, 8192, 768]⟩ 1 32)
    (hp : ∀ c : Dev Cert.KernelIdeal.nD, @Cert.Pre_finite_KernelIdeal.fn Cert.KernelIdeal.Run.pre_facts Ideal _
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1)
    (h0 : ∀ c : Dev Cert.KernelIdeal.nD, m ((c.tc : Thread Cert.KernelIdeal.nD Cert.KernelIdeal.τ).loc Cert.KernelIdeal.main_arg0)
      = Layout.block ⟨3, ![2, 256, 768]⟩ ⟨3, ![2, 8192, 768]⟩ 1 32 c X hL)
    (h1 : ∀ c : Dev Cert.KernelIdeal.nD, m ((c.tc : Thread Cert.KernelIdeal.nD Cert.KernelIdeal.τ).loc Cert.KernelIdeal.main_arg1) = wq)
    (h2 : ∀ c : Dev Cert.KernelIdeal.nD, m ((c.tc : Thread Cert.KernelIdeal.nD Cert.KernelIdeal.τ).loc Cert.KernelIdeal.main_arg2) = wk)
    (h3 : ∀ c : Dev Cert.KernelIdeal.nD, m ((c.tc : Thread Cert.KernelIdeal.nD Cert.KernelIdeal.τ).loc Cert.KernelIdeal.main_arg3) = wv)
    (h4 : ∀ c : Dev Cert.KernelIdeal.nD, m ((c.tc : Thread Cert.KernelIdeal.nD Cert.KernelIdeal.τ).loc Cert.KernelIdeal.main_arg4) = wo)
    (c : Dev Cert.KernelIdeal.nD) :
    Cert.KernelIdeal.Run.vOut (Cert.KernelIdeal.Run.ins m) c
      = Layout.block ⟨3, ![2, 256, 768]⟩ ⟨3, ![2, 8192, 768]⟩ 1 32 c (Cert.ReferenceIdeal.Value.rAll X wq wk wv wo) hL := by
  have hx : ∀ i, Attn.IsReal (X i : EReal) := fun i => by
    obtain ⟨b, p, k, rfl⟩ : ∃ (b : Fin 2) (p : Fin 8192) (k : Fin 768), i = ix3 b p k := ⟨_, _, _, eq_ix3 i⟩
    obtain ⟨d, r, hd⟩ := pos_surj p
    have := (Cert.KernelIdeal.Run.pre_real _ _ _ _ _ (hp d)).1 (ix3 b r k)
    rw [h0 d, block_at, hd] at this
    exact this
  have hq : ∀ i, Attn.IsReal (wq i : EReal) := fun i => by
    have := (Cert.KernelIdeal.Run.pre_real _ _ _ _ _ (hp c)).2.1 i
    rw [h1 c] at this
    exact this
  have hk : ∀ i, Attn.IsReal (wk i : EReal) := fun i => by
    have := (Cert.KernelIdeal.Run.pre_real _ _ _ _ _ (hp c)).2.2 i
    rw [h2 c] at this
    exact this
  have hC : Cert.KernelIdeal.Run.Cut (Cert.KernelIdeal.Run.ins m) X wq wk wv wo :=
    { x := fun d b r k => by rw [Cert.KernelIdeal.Run.ins_x, h0 d, block_at]
      q := fun d => by rw [Cert.KernelIdeal.Run.ins_q, h1 d]
      k := fun d => by rw [Cert.KernelIdeal.Run.ins_k, h2 d]
      v := fun d => by rw [Cert.KernelIdeal.Run.ins_v, h3 d]
      o := fun d => by rw [Cert.KernelIdeal.Run.ins_o, h4 d] }
  funext j
  obtain ⟨b, r, o, rfl⟩ : ∃ (b : Fin 2) (r : Fin 256) (o : Fin 768), j = ix3 b r o := ⟨_, _, _, eq_ix3 j⟩
  rw [block_at]
  exact (Cert.KernelIdeal.Run.out_cut hC c b r o).trans
    (Cert.ReferenceIdeal.Value.rAll_apply X wq wk wv wo hx hq hk b (pos c r) o).symm

/-- The claim. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.KernelIdeal.Run.pre_facts) := fun m g m' g' hp hm => by
  refine ⟨Cert.ReferenceIdeal.Value.rAll
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run (Cert.KernelIdeal.defs (F := Ideal)) _ _).mono (fun _ h c => ⟨(h c).1.trans ?_, (h c).2⟩) (kernel_run m g)
    exact out_block m _ _ _ _ _ _ hp (fun c => (hm c).1) (fun c => (hm c).2.1) (fun c => (hm c).2.2.1)
      (fun c => (hm c).2.2.2.1) (fun c => (hm c).2.2.2.2) c
  · exact (θ_run (Cert.ReferenceIdeal.defs (F := Ideal)) _ _).mono
      (fun _ h => ⟨(h 0).1.trans (Cert.ReferenceIdeal.Value.res_eq m' 0), (h 0).2⟩)
      (Cert.ReferenceIdeal.Value.run (F := Ideal) m' g')

end Cert.Equal
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equal

@[expose] public section

noncomputable section

namespace Cert.Proof

open Idealize.ShloMosaic Idealize.ShloMosaic.TcCoe

section SameText

attribute [local instance] Cert.Kernel.Gen.facts Cert.KernelIdeal.Gen.facts

/-- The kernel and its idealization have the same body table, read at the words. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (_, _) => rfl

/-- So they have the same definitions. -/
theorem defs_eq : Cert.Kernel.defs (F := Bits) = Cert.KernelIdeal.defs (F := Bits) := by
  unfold Cert.Kernel.defs Cert.KernelIdeal.defs
  exact congrArg _ bodies_eq

end SameText

/-- The kernel runs, keeps its arguments and leaves every counter at zero: the run of its idealization, which has the
    same text, read at the words. -/
theorem frame_kernel : Cert.quiescent_Kernel (hKernel := Cert.Kernel.Gen.facts) := fun m ρ _ => by
  rw [defs_eq]
  exact Cert.KernelIdeal.Run.frame_any (F := Bits) m ρ

/-- The same of the idealization. -/
theorem frame_ideal : Cert.quiescent_KernelIdeal (hKernelIdeal := Cert.KernelIdeal.Gen.facts) := fun m ρ _ =>
  Cert.KernelIdeal.Run.frame_any (F := Ideal) m ρ

/-- The reference runs and keeps its arguments; it has no semaphore. -/
theorem frame_reference : Cert.quiescent_ReferenceIdeal (hReferenceIdeal := Cert.ReferenceIdeal.Gen.facts) := fun m ρ _ => by
  have h := Cert.ReferenceIdeal.Value.run (F := Ideal) m ρ
  exact (θ_run Cert.ReferenceIdeal.defs _ _).mono (fun r h => ⟨fun c => (h c).2,
    Idealize.ShloMosaic.sem_eq_zero_of_no_sems (by decide) r.2⟩) h

/-- The idealization's frame does not need the precondition of the value claim. -/
theorem frame_ideal_pre : Cert.quiescent_KernelIdeal_pre_finite_KernelIdeal (hKernelIdeal := Cert.KernelIdeal.Gen.facts)
    (hPre_finite_KernelIdeal := Cert.KernelIdeal.Run.pre_facts) := fun m ρ _ =>
  Cert.KernelIdeal.Run.frame_any (F := Ideal) m ρ

/-- Nor does the reference's. -/
theorem frame_reference_pre : Cert.quiescent_ReferenceIdeal_pre_finite_ReferenceIdeal (hReferenceIdeal := Cert.ReferenceIdeal.Gen.facts)
    (hPre_finite_ReferenceIdeal := Cert.KernelIdeal.Run.pre_facts_ref) := fun m ρ _ => by
  have h := Cert.ReferenceIdeal.Value.run (F := Ideal) m ρ
  exact (θ_run Cert.ReferenceIdeal.defs _ _).mono (fun r h => ⟨fun c => (h c).2,
    Idealize.ShloMosaic.sem_eq_zero_of_no_sems (by decide) r.2⟩) h

/-- Everything that is claimed. -/
theorem claim : Cert.Claim :=
  ⟨Cert.Kernel.Gen.facts, Cert.KernelIdeal.Gen.facts, Cert.ReferenceIdeal.Gen.facts, Cert.KernelIdeal.Run.pre_facts,
    Cert.KernelIdeal.Run.pre_facts_ref, frame_kernel, frame_ideal, frame_ideal_pre, frame_reference, frame_reference_pre, trivial,
    Cert.Equal.algebraic⟩

end Cert.Proof

end
